-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![16384, 1024]⟩ ⟨2, ![65536, 1024]⟩ (Layout.meshBlock [2, 2, 4] ![[2], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16384x1024 : Shape := ⟨2, ![16384, 1024]⟩
abbrev S2x1024x1024 : Shape := ⟨3, ![2, 1024, 1024]⟩
abbrev S4x4x256x1024 : Shape := ⟨4, ![4, 4, 256, 1024]⟩
abbrev S4x1024x1024 : Shape := ⟨3, ![4, 1024, 1024]⟩
abbrev S2 : Shape := ⟨1, ![2]⟩
abbrev S4 : Shape := ⟨1, ![4]⟩
abbrev S3 : Shape := ⟨1, ![3]⟩
abbrev S4x4 : Shape := ⟨2, ![4, 4]⟩
abbrev S_ : Shape := ⟨0, ![]⟩
abbrev S1 : Shape := ⟨1, ![1]⟩
abbrev S1x1024x1024 : Shape := ⟨3, ![1, 1024, 1024]⟩
abbrev S1024x1024 : Shape := ⟨2, ![1024, 1024]⟩
abbrev S256x1024 : Shape := ⟨2, ![256, 1024]⟩
abbrev S1x1x256x1024 : Shape := ⟨4, ![1, 1, 256, 1024]⟩
abbrev S1x1 : Shape := ⟨2, ![1, 1]⟩
abbrev S1x256x1024 : Shape := ⟨3, ![1, 256, 1024]⟩
abbrev S1x512x1024 : Shape := ⟨3, ![1, 512, 1024]⟩
abbrev S512x1024 : Shape := ⟨2, ![512, 1024]⟩

abbrev nBuf : Space → Nat
  | .hbm => 2
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .local _ .vmem, ⟨0, _⟩ => ⟨S2x1024x1024, .f32⟩
  | .local _ .vmem, ⟨1, _⟩ => ⟨S4x4x256x1024, .bf16⟩
  | .local _ .vmem, ⟨2, _⟩ => ⟨S4x4x256x1024, .bf16⟩
  | .local _ .vmem, ⟨3, _⟩ => ⟨S4x1024x1024, .bf16⟩
  | .local _ .vmem, ⟨4, _⟩ => ⟨S4x1024x1024, .bf16⟩
  | .local _ .vmem, ⟨5, _⟩ => ⟨S4x1024x1024, .bf16⟩
  | .local _ .vmem, ⟨6, _⟩ => ⟨S4x1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 76 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | _ => false

abbrev sig : RefSig :=
  (ofTc nBuf bufTy 1 76 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_18 : BitVec 32 := 8#32
  let v29 : BitVec 32 := Scalar.muli v2 c8_i32_18
  let v30 : BitVec 32 := Scalar.addi c0_i32 v29
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_19 : BitVec 32 := 4#32
  let v31 : BitVec 32 := Scalar.muli v5 c4_i32_19
  let v32 : BitVec 32 := Scalar.addi v30 v31
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_4 : BitVec 32 := 4#32
  let v11 : BitVec 32 := Scalar.addi v8 c4_i32_4
  let c1_i32_5 : BitVec 32 := 1#32
  let v12 : BitVec 32 := Scalar.subi v11 c1_i32_5
  let c4_i32_6 : BitVec 32 := 4#32
  let v13 : BitVec 32 := Scalar.remsi v12 c4_i32_6
  let c1_i32_20 : BitVec 32 := 1#32
  let v33 : BitVec 32 := Scalar.muli v13 c1_i32_20
  let v34 : BitVec 32 := Scalar.addi v32 v33
  v34.toNat
def k0_dev2 (d0 : Dev nD) : Nat :=
  let c0_i32_23 : BitVec 32 := 0#32
  let c1_i32_15 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v27 : BitVec 32 := Scalar.subi c1_i32_15 v2
  let c8_i32_22 : BitVec 32 := 8#32
  let v35 : BitVec 32 := Scalar.muli v27 c8_i32_22
  let v36 : BitVec 32 := Scalar.addi c0_i32_23 v35
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_24 : BitVec 32 := 4#32
  let v37 : BitVec 32 := Scalar.muli v5 c4_i32_24
  let v38 : BitVec 32 := Scalar.addi v36 v37
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_25 : BitVec 32 := 1#32
  let v39 : BitVec 32 := Scalar.muli v8 c1_i32_25
  let v40 : BitVec 32 := Scalar.addi v38 v39
  v40.toNat
def k0_dev3 (d0 : Dev nD) : Nat :=
  let c0_i32_28 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_27 : BitVec 32 := 8#32
  let v41 : BitVec 32 := Scalar.muli v2 c8_i32_27
  let v42 : BitVec 32 := Scalar.addi c0_i32_28 v41
  let c1_i32_16 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v28 : BitVec 32 := Scalar.subi c1_i32_16 v5
  let c4_i32_29 : BitVec 32 := 4#32
  let v43 : BitVec 32 := Scalar.muli v28 c4_i32_29
  let v44 : BitVec 32 := Scalar.addi v42 v43
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_30 : BitVec 32 := 1#32
  let v45 : BitVec 32 := Scalar.muli v8 c1_i32_30
  let v46 : BitVec 32 := Scalar.addi v44 v45
  v46.toNat
def k0_off1 (d0 : Dev nD) (c0_i32_31 : BitVec 32) : Fin 2 → Nat :=
  let c2_i32_7 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.muli c2_i32_7 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.addi v14 v5
  let c4096_i32 : BitVec 32 := 4096#32
  let v47 : BitVec 32 := Scalar.muli v15 c4096_i32
  let v48 : BitVec 32 := Scalar.addi v47 c0_i32_31
  let c0_i32_39 : BitVec 32 := 0#32
  ![v48.toNat, 0]
def k0_off2 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c256_i32 : BitVec 32 := 256#32
  let v70 : BitVec 32 := Scalar.muli v8 c256_i32
  let v73 : Index := Scalar.indexCast v70
  let c0 : Index := 0#32
  ![v73.toNat, 0]
def k0_dev4 (d0 : Dev nD) : Nat :=
  let c0_i32_65 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_64 : BitVec 32 := 8#32
  let v79 : BitVec 32 := Scalar.muli v2 c8_i32_64
  let v80 : BitVec 32 := Scalar.addi c0_i32_65 v79
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_66 : BitVec 32 := 4#32
  let v81 : BitVec 32 := Scalar.muli v5 c4_i32_66
  let v82 : BitVec 32 := Scalar.addi v80 v81
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let v10 : BitVec 32 := Scalar.remsi v9 c4_i32_3
  let c1_i32_67 : BitVec 32 := 1#32
  let v83 : BitVec 32 := Scalar.muli v10 c1_i32_67
  let v84 : BitVec 32 := Scalar.addi v82 v83
  v84.toNat
def k0_off3 (d0 : Dev nD) (c0_i32_99 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v111 : BitVec 32 := Scalar.subi v8 c0_i32_99
  let c1_i32_100 : BitVec 32 := 1#32
  let v112 : BitVec 32 := Scalar.subi v111 c1_i32_100
  let c8_i32_101 : BitVec 32 := 8#32
  let v113 : BitVec 32 := Scalar.addi v112 c8_i32_101
  let c4_i32_102 : BitVec 32 := 4#32
  let v114 : BitVec 32 := Scalar.remsi v113 c4_i32_102
  let c256_i32_106 : BitVec 32 := 256#32
  let v118 : BitVec 32 := Scalar.muli v114 c256_i32_106
  let v121 : Index := Scalar.indexCast v118
  let c0_110 : Index := 0#32
  ![v121.toNat, 0]
def k0_dev5 (d0 : Dev nD) : Nat :=
  let c0_i32_123 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_122 : BitVec 32 := 8#32
  let v128 : BitVec 32 := Scalar.muli v2 c8_i32_122
  let v129 : BitVec 32 := Scalar.addi c0_i32_123 v128
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_124 : BitVec 32 := 4#32
  let v130 : BitVec 32 := Scalar.muli v5 c4_i32_124
  let v131 : BitVec 32 := Scalar.addi v129 v130
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let v10 : BitVec 32 := Scalar.remsi v9 c4_i32_3
  let c1_i32_125 : BitVec 32 := 1#32
  let v132 : BitVec 32 := Scalar.muli v10 c1_i32_125
  let v133 : BitVec 32 := Scalar.addi v131 v132
  v133.toNat
def k0_dev6 (d0 : Dev nD) : Nat :=
  let c0_i32_181 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_180 : BitVec 32 := 8#32
  let v177 : BitVec 32 := Scalar.muli v2 c8_i32_180
  let v178 : BitVec 32 := Scalar.addi c0_i32_181 v177
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_182 : BitVec 32 := 4#32
  let v179 : BitVec 32 := Scalar.muli v5 c4_i32_182
  let v180 : BitVec 32 := Scalar.addi v178 v179
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let v10 : BitVec 32 := Scalar.remsi v9 c4_i32_3
  let c1_i32_183 : BitVec 32 := 1#32
  let v181 : BitVec 32 := Scalar.muli v10 c1_i32_183
  let v182 : BitVec 32 := Scalar.addi v180 v181
  v182.toNat
def k0_off4 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_215 : BitVec 32 := 1#32
  let v209 : BitVec 32 := Scalar.addi v8 c1_i32_215
  let c4_i32_216 : BitVec 32 := 4#32
  let v210 : BitVec 32 := Scalar.remsi v209 c4_i32_216
  let c256_i32_220 : BitVec 32 := 256#32
  let v214 : BitVec 32 := Scalar.muli v210 c256_i32_220
  let v217 : Index := Scalar.indexCast v214
  let c0_224 : Index := 0#32
  ![v217.toNat, 0]
def k0_off5 (d0 : Dev nD) : Fin 3 → Nat :=
  let c0_226 : Index := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_215 : BitVec 32 := 1#32
  let v209 : BitVec 32 := Scalar.addi v8 c1_i32_215
  let c4_i32_216 : BitVec 32 := 4#32
  let v210 : BitVec 32 := Scalar.remsi v209 c4_i32_216
  let c256_i32_225 : BitVec 32 := 256#32
  let v221 : BitVec 32 := Scalar.muli v210 c256_i32_225
  let v222 : Index := Scalar.indexCast v221
  let c0_227 : Index := 0#32
  ![0, v222.toNat, 0]
def k0_dev7 (d0 : Dev nD) : Nat :=
  let c0_i32_240 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_239 : BitVec 32 := 8#32
  let v229 : BitVec 32 := Scalar.muli v2 c8_i32_239
  let v230 : BitVec 32 := Scalar.addi c0_i32_240 v229
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_241 : BitVec 32 := 4#32
  let v231 : BitVec 32 := Scalar.muli v5 c4_i32_241
  let v232 : BitVec 32 := Scalar.addi v230 v231
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let v10 : BitVec 32 := Scalar.remsi v9 c4_i32_3
  let c1_i32_242 : BitVec 32 := 1#32
  let v233 : BitVec 32 := Scalar.muli v10 c1_i32_242
  let v234 : BitVec 32 := Scalar.addi v232 v233
  v234.toNat
def k0_off6 (d0 : Dev nD) (c0_i32_274 : BitVec 32) : Fin 3 → Nat :=
  let c0_282 : Index := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v261 : BitVec 32 := Scalar.subi v8 c0_i32_274
  let c4_i32_275 : BitVec 32 := 4#32
  let v262 : BitVec 32 := Scalar.addi v261 c4_i32_275
  let c4_i32_276 : BitVec 32 := 4#32
  let v263 : BitVec 32 := Scalar.remsi v262 c4_i32_276
  let c256_i32_281 : BitVec 32 := 256#32
  let v266 : BitVec 32 := Scalar.muli v263 c256_i32_281
  let v267 : Index := Scalar.indexCast v266
  let c0_283 : Index := 0#32
  ![0, v267.toNat, 0]
def k0_dev8 (d0 : Dev nD) : Nat :=
  let c0_i32_292 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_291 : BitVec 32 := 8#32
  let v271 : BitVec 32 := Scalar.muli v2 c8_i32_291
  let v272 : BitVec 32 := Scalar.addi c0_i32_292 v271
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_293 : BitVec 32 := 4#32
  let v273 : BitVec 32 := Scalar.muli v5 c4_i32_293
  let v274 : BitVec 32 := Scalar.addi v272 v273
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let v10 : BitVec 32 := Scalar.remsi v9 c4_i32_3
  let c1_i32_294 : BitVec 32 := 1#32
  let v275 : BitVec 32 := Scalar.muli v10 c1_i32_294
  let v276 : BitVec 32 := Scalar.addi v274 v275
  v276.toNat
def k0_dev9 (d0 : Dev nD) : Nat :=
  let c0_i32_344 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_343 : BitVec 32 := 8#32
  let v313 : BitVec 32 := Scalar.muli v2 c8_i32_343
  let v314 : BitVec 32 := Scalar.addi c0_i32_344 v313
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_345 : BitVec 32 := 4#32
  let v315 : BitVec 32 := Scalar.muli v5 c4_i32_345
  let v316 : BitVec 32 := Scalar.addi v314 v315
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let v10 : BitVec 32 := Scalar.remsi v9 c4_i32_3
  let c1_i32_346 : BitVec 32 := 1#32
  let v317 : BitVec 32 := Scalar.muli v10 c1_i32_346
  let v318 : BitVec 32 := Scalar.addi v316 v317
  v318.toNat
def k0_dev10 (d0 : Dev nD) : Nat :=
  let c0_i32_396 : BitVec 32 := 0#32
  let c1_i32_388 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v355 : BitVec 32 := Scalar.subi c1_i32_388 v2
  let c8_i32_395 : BitVec 32 := 8#32
  let v357 : BitVec 32 := Scalar.muli v355 c8_i32_395
  let v358 : BitVec 32 := Scalar.addi c0_i32_396 v357
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_397 : BitVec 32 := 4#32
  let v359 : BitVec 32 := Scalar.muli v5 c4_i32_397
  let v360 : BitVec 32 := Scalar.addi v358 v359
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_398 : BitVec 32 := 1#32
  let v361 : BitVec 32 := Scalar.muli v8 c1_i32_398
  let v362 : BitVec 32 := Scalar.addi v360 v361
  v362.toNat
def k0_dev11 (d0 : Dev nD) : Nat :=
  let c0_i32_409 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_408 : BitVec 32 := 8#32
  let v371 : BitVec 32 := Scalar.muli v2 c8_i32_408
  let v372 : BitVec 32 := Scalar.addi c0_i32_409 v371
  let c1_i32_389 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v356 : BitVec 32 := Scalar.subi c1_i32_389 v5
  let c4_i32_410 : BitVec 32 := 4#32
  let v373 : BitVec 32 := Scalar.muli v356 c4_i32_410
  let v374 : BitVec 32 := Scalar.addi v372 v373
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_411 : BitVec 32 := 1#32
  let v375 : BitVec 32 := Scalar.muli v8 c1_i32_411
  let v376 : BitVec 32 := Scalar.addi v374 v375
  v376.toNat
def k0_dev12 (d0 : Dev nD) : Nat :=
  let c0_i32_443 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_442 : BitVec 32 := 8#32
  let v404 : BitVec 32 := Scalar.muli v2 c8_i32_442
  let v405 : BitVec 32 := Scalar.addi c0_i32_443 v404
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_444 : BitVec 32 := 4#32
  let v406 : BitVec 32 := Scalar.muli v5 c4_i32_444
  let v407 : BitVec 32 := Scalar.addi v405 v406
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let v10 : BitVec 32 := Scalar.remsi v9 c4_i32_3
  let c1_i32_445 : BitVec 32 := 1#32
  let v408 : BitVec 32 := Scalar.muli v10 c1_i32_445
  let v409 : BitVec 32 := Scalar.addi v407 v408
  v409.toNat
def k0_dev13 (d0 : Dev nD) : Nat :=
  let c0_i32_502 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_501 : BitVec 32 := 8#32
  let v453 : BitVec 32 := Scalar.muli v2 c8_i32_501
  let v454 : BitVec 32 := Scalar.addi c0_i32_502 v453
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_503 : BitVec 32 := 4#32
  let v455 : BitVec 32 := Scalar.muli v5 c4_i32_503
  let v456 : BitVec 32 := Scalar.addi v454 v455
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let v10 : BitVec 32 := Scalar.remsi v9 c4_i32_3
  let c1_i32_504 : BitVec 32 := 1#32
  let v457 : BitVec 32 := Scalar.muli v10 c1_i32_504
  let v458 : BitVec 32 := Scalar.addi v456 v457
  v458.toNat
def k0_dev14 (d0 : Dev nD) : Nat :=
  let c0_i32_561 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_560 : BitVec 32 := 8#32
  let v502 : BitVec 32 := Scalar.muli v2 c8_i32_560
  let v503 : BitVec 32 := Scalar.addi c0_i32_561 v502
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_562 : BitVec 32 := 4#32
  let v504 : BitVec 32 := Scalar.muli v5 c4_i32_562
  let v505 : BitVec 32 := Scalar.addi v503 v504
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let v10 : BitVec 32 := Scalar.remsi v9 c4_i32_3
  let c1_i32_563 : BitVec 32 := 1#32
  let v506 : BitVec 32 := Scalar.muli v10 c1_i32_563
  let v507 : BitVec 32 := Scalar.addi v505 v506
  v507.toNat
def k0_off7 (d0 : Dev nD) : Fin 3 → Nat :=
  let c1_607 : Index := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_595 : BitVec 32 := 1#32
  let v534 : BitVec 32 := Scalar.addi v8 c1_i32_595
  let c4_i32_596 : BitVec 32 := 4#32
  let v535 : BitVec 32 := Scalar.remsi v534 c4_i32_596
  let c256_i32_606 : BitVec 32 := 256#32
  let v546 : BitVec 32 := Scalar.muli v535 c256_i32_606
  let v547 : Index := Scalar.indexCast v546
  let c0_608 : Index := 0#32
  ![1, v547.toNat, 0]
def k0_dev15 (d0 : Dev nD) : Nat :=
  let c0_i32_621 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_620 : BitVec 32 := 8#32
  let v554 : BitVec 32 := Scalar.muli v2 c8_i32_620
  let v555 : BitVec 32 := Scalar.addi c0_i32_621 v554
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_622 : BitVec 32 := 4#32
  let v556 : BitVec 32 := Scalar.muli v5 c4_i32_622
  let v557 : BitVec 32 := Scalar.addi v555 v556
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let v10 : BitVec 32 := Scalar.remsi v9 c4_i32_3
  let c1_i32_623 : BitVec 32 := 1#32
  let v558 : BitVec 32 := Scalar.muli v10 c1_i32_623
  let v559 : BitVec 32 := Scalar.addi v557 v558
  v559.toNat
def k0_off8 (d0 : Dev nD) (c0_i32_655 : BitVec 32) : Fin 3 → Nat :=
  let c1_663 : Index := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v586 : BitVec 32 := Scalar.subi v8 c0_i32_655
  let c4_i32_656 : BitVec 32 := 4#32
  let v587 : BitVec 32 := Scalar.addi v586 c4_i32_656
  let c4_i32_657 : BitVec 32 := 4#32
  let v588 : BitVec 32 := Scalar.remsi v587 c4_i32_657
  let c256_i32_662 : BitVec 32 := 256#32
  let v591 : BitVec 32 := Scalar.muli v588 c256_i32_662
  let v592 : Index := Scalar.indexCast v591
  let c0_664 : Index := 0#32
  ![1, v592.toNat, 0]
def k0_dev16 (d0 : Dev nD) : Nat :=
  let c0_i32_673 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_672 : BitVec 32 := 8#32
  let v596 : BitVec 32 := Scalar.muli v2 c8_i32_672
  let v597 : BitVec 32 := Scalar.addi c0_i32_673 v596
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_674 : BitVec 32 := 4#32
  let v598 : BitVec 32 := Scalar.muli v5 c4_i32_674
  let v599 : BitVec 32 := Scalar.addi v597 v598
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let v10 : BitVec 32 := Scalar.remsi v9 c4_i32_3
  let c1_i32_675 : BitVec 32 := 1#32
  let v600 : BitVec 32 := Scalar.muli v10 c1_i32_675
  let v601 : BitVec 32 := Scalar.addi v599 v600
  v601.toNat
def k0_dev17 (d0 : Dev nD) : Nat :=
  let c0_i32_725 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_724 : BitVec 32 := 8#32
  let v638 : BitVec 32 := Scalar.muli v2 c8_i32_724
  let v639 : BitVec 32 := Scalar.addi c0_i32_725 v638
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_726 : BitVec 32 := 4#32
  let v640 : BitVec 32 := Scalar.muli v5 c4_i32_726
  let v641 : BitVec 32 := Scalar.addi v639 v640
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let v10 : BitVec 32 := Scalar.remsi v9 c4_i32_3
  let c1_i32_727 : BitVec 32 := 1#32
  let v642 : BitVec 32 := Scalar.muli v10 c1_i32_727
  let v643 : BitVec 32 := Scalar.addi v641 v642
  v643.toNat
def k0_dev18 (d0 : Dev nD) : Nat :=
  let c0_i32_777 : BitVec 32 := 0#32
  let c1_i32_769 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v680 : BitVec 32 := Scalar.subi c1_i32_769 v2
  let c8_i32_776 : BitVec 32 := 8#32
  let v682 : BitVec 32 := Scalar.muli v680 c8_i32_776
  let v683 : BitVec 32 := Scalar.addi c0_i32_777 v682
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_778 : BitVec 32 := 4#32
  let v684 : BitVec 32 := Scalar.muli v5 c4_i32_778
  let v685 : BitVec 32 := Scalar.addi v683 v684
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_779 : BitVec 32 := 1#32
  let v686 : BitVec 32 := Scalar.muli v8 c1_i32_779
  let v687 : BitVec 32 := Scalar.addi v685 v686
  v687.toNat
def k0_dev19 (d0 : Dev nD) : Nat :=
  let c0_i32_790 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_789 : BitVec 32 := 8#32
  let v696 : BitVec 32 := Scalar.muli v2 c8_i32_789
  let v697 : BitVec 32 := Scalar.addi c0_i32_790 v696
  let c1_i32_770 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v681 : BitVec 32 := Scalar.subi c1_i32_770 v5
  let c4_i32_791 : BitVec 32 := 4#32
  let v698 : BitVec 32 := Scalar.muli v681 c4_i32_791
  let v699 : BitVec 32 := Scalar.addi v697 v698
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_792 : BitVec 32 := 1#32
  let v700 : BitVec 32 := Scalar.muli v8 c1_i32_792
  let v701 : BitVec 32 := Scalar.addi v699 v700
  v701.toNat
def k0_dev20 (d0 : Dev nD) : Nat :=
  let c0_i32_851 : BitVec 32 := 0#32
  let c1_i32_843 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v746 : BitVec 32 := Scalar.subi c1_i32_843 v2
  let c8_i32_850 : BitVec 32 := 8#32
  let v748 : BitVec 32 := Scalar.muli v746 c8_i32_850
  let v749 : BitVec 32 := Scalar.addi c0_i32_851 v748
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_852 : BitVec 32 := 4#32
  let v750 : BitVec 32 := Scalar.muli v5 c4_i32_852
  let v751 : BitVec 32 := Scalar.addi v749 v750
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_853 : BitVec 32 := 1#32
  let v752 : BitVec 32 := Scalar.muli v8 c1_i32_853
  let v753 : BitVec 32 := Scalar.addi v751 v752
  v753.toNat
def k0_dev21 (d0 : Dev nD) : Nat :=
  let c0_i32_864 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_863 : BitVec 32 := 8#32
  let v762 : BitVec 32 := Scalar.muli v2 c8_i32_863
  let v763 : BitVec 32 := Scalar.addi c0_i32_864 v762
  let c1_i32_844 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v747 : BitVec 32 := Scalar.subi c1_i32_844 v5
  let c4_i32_865 : BitVec 32 := 4#32
  let v764 : BitVec 32 := Scalar.muli v747 c4_i32_865
  let v765 : BitVec 32 := Scalar.addi v763 v764
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_866 : BitVec 32 := 1#32
  let v766 : BitVec 32 := Scalar.muli v8 c1_i32_866
  let v767 : BitVec 32 := Scalar.addi v765 v766
  v767.toNat
def k0_dev22 (d0 : Dev nD) : Nat :=
  let c0_i32_897 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_896 : BitVec 32 := 8#32
  let v795 : BitVec 32 := Scalar.muli v2 c8_i32_896
  let v796 : BitVec 32 := Scalar.addi c0_i32_897 v795
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_898 : BitVec 32 := 4#32
  let v797 : BitVec 32 := Scalar.muli v5 c4_i32_898
  let v798 : BitVec 32 := Scalar.addi v796 v797
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let v10 : BitVec 32 := Scalar.remsi v9 c4_i32_3
  let c1_i32_899 : BitVec 32 := 1#32
  let v799 : BitVec 32 := Scalar.muli v10 c1_i32_899
  let v800 : BitVec 32 := Scalar.addi v798 v799
  v800.toNat
def k0_dev23 (d0 : Dev nD) : Nat :=
  let c0_i32_956 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_955 : BitVec 32 := 8#32
  let v844 : BitVec 32 := Scalar.muli v2 c8_i32_955
  let v845 : BitVec 32 := Scalar.addi c0_i32_956 v844
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_957 : BitVec 32 := 4#32
  let v846 : BitVec 32 := Scalar.muli v5 c4_i32_957
  let v847 : BitVec 32 := Scalar.addi v845 v846
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let v10 : BitVec 32 := Scalar.remsi v9 c4_i32_3
  let c1_i32_958 : BitVec 32 := 1#32
  let v848 : BitVec 32 := Scalar.muli v10 c1_i32_958
  let v849 : BitVec 32 := Scalar.addi v847 v848
  v849.toNat
def k0_dev24 (d0 : Dev nD) : Nat :=
  let c0_i32_1015 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1014 : BitVec 32 := 8#32
  let v893 : BitVec 32 := Scalar.muli v2 c8_i32_1014
  let v894 : BitVec 32 := Scalar.addi c0_i32_1015 v893
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1016 : BitVec 32 := 4#32
  let v895 : BitVec 32 := Scalar.muli v5 c4_i32_1016
  let v896 : BitVec 32 := Scalar.addi v894 v895
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let v10 : BitVec 32 := Scalar.remsi v9 c4_i32_3
  let c1_i32_1017 : BitVec 32 := 1#32
  let v897 : BitVec 32 := Scalar.muli v10 c1_i32_1017
  let v898 : BitVec 32 := Scalar.addi v896 v897
  v898.toNat
def k0_off9 (d0 : Dev nD) : Fin 3 → Nat :=
  let c2_1061 : Index := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1049 : BitVec 32 := 1#32
  let v925 : BitVec 32 := Scalar.addi v8 c1_i32_1049
  let c4_i32_1050 : BitVec 32 := 4#32
  let v926 : BitVec 32 := Scalar.remsi v925 c4_i32_1050
  let c256_i32_1060 : BitVec 32 := 256#32
  let v937 : BitVec 32 := Scalar.muli v926 c256_i32_1060
  let v938 : Index := Scalar.indexCast v937
  let c0_1062 : Index := 0#32
  ![2, v938.toNat, 0]
def k0_dev25 (d0 : Dev nD) : Nat :=
  let c0_i32_1075 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1074 : BitVec 32 := 8#32
  let v945 : BitVec 32 := Scalar.muli v2 c8_i32_1074
  let v946 : BitVec 32 := Scalar.addi c0_i32_1075 v945
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1076 : BitVec 32 := 4#32
  let v947 : BitVec 32 := Scalar.muli v5 c4_i32_1076
  let v948 : BitVec 32 := Scalar.addi v946 v947
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let v10 : BitVec 32 := Scalar.remsi v9 c4_i32_3
  let c1_i32_1077 : BitVec 32 := 1#32
  let v949 : BitVec 32 := Scalar.muli v10 c1_i32_1077
  let v950 : BitVec 32 := Scalar.addi v948 v949
  v950.toNat
def k0_off10 (d0 : Dev nD) (c0_i32_1109 : BitVec 32) : Fin 3 → Nat :=
  let c2_1117 : Index := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v977 : BitVec 32 := Scalar.subi v8 c0_i32_1109
  let c4_i32_1110 : BitVec 32 := 4#32
  let v978 : BitVec 32 := Scalar.addi v977 c4_i32_1110
  let c4_i32_1111 : BitVec 32 := 4#32
  let v979 : BitVec 32 := Scalar.remsi v978 c4_i32_1111
  let c256_i32_1116 : BitVec 32 := 256#32
  let v982 : BitVec 32 := Scalar.muli v979 c256_i32_1116
  let v983 : Index := Scalar.indexCast v982
  let c0_1118 : Index := 0#32
  ![2, v983.toNat, 0]
def k0_dev26 (d0 : Dev nD) : Nat :=
  let c0_i32_1127 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1126 : BitVec 32 := 8#32
  let v987 : BitVec 32 := Scalar.muli v2 c8_i32_1126
  let v988 : BitVec 32 := Scalar.addi c0_i32_1127 v987
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1128 : BitVec 32 := 4#32
  let v989 : BitVec 32 := Scalar.muli v5 c4_i32_1128
  let v990 : BitVec 32 := Scalar.addi v988 v989
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let v10 : BitVec 32 := Scalar.remsi v9 c4_i32_3
  let c1_i32_1129 : BitVec 32 := 1#32
  let v991 : BitVec 32 := Scalar.muli v10 c1_i32_1129
  let v992 : BitVec 32 := Scalar.addi v990 v991
  v992.toNat
def k0_dev27 (d0 : Dev nD) : Nat :=
  let c0_i32_1179 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1178 : BitVec 32 := 8#32
  let v1029 : BitVec 32 := Scalar.muli v2 c8_i32_1178
  let v1030 : BitVec 32 := Scalar.addi c0_i32_1179 v1029
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1180 : BitVec 32 := 4#32
  let v1031 : BitVec 32 := Scalar.muli v5 c4_i32_1180
  let v1032 : BitVec 32 := Scalar.addi v1030 v1031
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let v10 : BitVec 32 := Scalar.remsi v9 c4_i32_3
  let c1_i32_1181 : BitVec 32 := 1#32
  let v1033 : BitVec 32 := Scalar.muli v10 c1_i32_1181
  let v1034 : BitVec 32 := Scalar.addi v1032 v1033
  v1034.toNat
def k0_dev28 (d0 : Dev nD) : Nat :=
  let c0_i32_1231 : BitVec 32 := 0#32
  let c1_i32_1223 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v1071 : BitVec 32 := Scalar.subi c1_i32_1223 v2
  let c8_i32_1230 : BitVec 32 := 8#32
  let v1073 : BitVec 32 := Scalar.muli v1071 c8_i32_1230
  let v1074 : BitVec 32 := Scalar.addi c0_i32_1231 v1073
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1232 : BitVec 32 := 4#32
  let v1075 : BitVec 32 := Scalar.muli v5 c4_i32_1232
  let v1076 : BitVec 32 := Scalar.addi v1074 v1075
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1233 : BitVec 32 := 1#32
  let v1077 : BitVec 32 := Scalar.muli v8 c1_i32_1233
  let v1078 : BitVec 32 := Scalar.addi v1076 v1077
  v1078.toNat
def k0_dev29 (d0 : Dev nD) : Nat :=
  let c0_i32_1244 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1243 : BitVec 32 := 8#32
  let v1087 : BitVec 32 := Scalar.muli v2 c8_i32_1243
  let v1088 : BitVec 32 := Scalar.addi c0_i32_1244 v1087
  let c1_i32_1224 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v1072 : BitVec 32 := Scalar.subi c1_i32_1224 v5
  let c4_i32_1245 : BitVec 32 := 4#32
  let v1089 : BitVec 32 := Scalar.muli v1072 c4_i32_1245
  let v1090 : BitVec 32 := Scalar.addi v1088 v1089
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1246 : BitVec 32 := 1#32
  let v1091 : BitVec 32 := Scalar.muli v8 c1_i32_1246
  let v1092 : BitVec 32 := Scalar.addi v1090 v1091
  v1092.toNat
def k0_dev30 (d0 : Dev nD) : Nat :=
  let c0_i32_1305 : BitVec 32 := 0#32
  let c1_i32_1297 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v1137 : BitVec 32 := Scalar.subi c1_i32_1297 v2
  let c8_i32_1304 : BitVec 32 := 8#32
  let v1139 : BitVec 32 := Scalar.muli v1137 c8_i32_1304
  let v1140 : BitVec 32 := Scalar.addi c0_i32_1305 v1139
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1306 : BitVec 32 := 4#32
  let v1141 : BitVec 32 := Scalar.muli v5 c4_i32_1306
  let v1142 : BitVec 32 := Scalar.addi v1140 v1141
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1307 : BitVec 32 := 1#32
  let v1143 : BitVec 32 := Scalar.muli v8 c1_i32_1307
  let v1144 : BitVec 32 := Scalar.addi v1142 v1143
  v1144.toNat
def k0_dev31 (d0 : Dev nD) : Nat :=
  let c0_i32_1318 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1317 : BitVec 32 := 8#32
  let v1153 : BitVec 32 := Scalar.muli v2 c8_i32_1317
  let v1154 : BitVec 32 := Scalar.addi c0_i32_1318 v1153
  let c1_i32_1298 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v1138 : BitVec 32 := Scalar.subi c1_i32_1298 v5
  let c4_i32_1319 : BitVec 32 := 4#32
  let v1155 : BitVec 32 := Scalar.muli v1138 c4_i32_1319
  let v1156 : BitVec 32 := Scalar.addi v1154 v1155
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1320 : BitVec 32 := 1#32
  let v1157 : BitVec 32 := Scalar.muli v8 c1_i32_1320
  let v1158 : BitVec 32 := Scalar.addi v1156 v1157
  v1158.toNat
def k0_off11 (d0 : Dev nD) (c0_i32_1374 : BitVec 32) : Fin 2 → Nat :=
  let c2_i32_9 : BitVec 32 := 2#32
  let c1_i32_8 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v16 : BitVec 32 := Scalar.subi c1_i32_8 v2
  let v17 : BitVec 32 := Scalar.muli c2_i32_9 v16
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v18 : BitVec 32 := Scalar.addi v17 v5
  let c4096_i32_1373 : BitVec 32 := 4096#32
  let v1205 : BitVec 32 := Scalar.muli v18 c4096_i32_1373
  let v1206 : BitVec 32 := Scalar.addi v1205 c0_i32_1374
  let c0_i32_1386 : BitVec 32 := 0#32
  ![v1206.toNat, 0]
def k0_off12 (d0 : Dev nD) (c0_i32_1376 : BitVec 32) : Fin 2 → Nat :=
  let c2_i32_10 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.muli c2_i32_10 v2
  let c1_i32_11 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_11 v5
  let v21 : BitVec 32 := Scalar.addi v19 v20
  let c4096_i32_1375 : BitVec 32 := 4096#32
  let v1207 : BitVec 32 := Scalar.muli v21 c4096_i32_1375
  let v1208 : BitVec 32 := Scalar.addi v1207 c0_i32_1376
  let c0_i32_1391 : BitVec 32 := 0#32
  ![v1208.toNat, 0]
def k0_off13 (d0 : Dev nD) (c0_i32_1378 : BitVec 32) : Fin 2 → Nat :=
  let c2_i32_13 : BitVec 32 := 2#32
  let c1_i32_12 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v22 : BitVec 32 := Scalar.subi c1_i32_12 v2
  let v23 : BitVec 32 := Scalar.muli c2_i32_13 v22
  let c1_i32_14 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v24 : BitVec 32 := Scalar.subi c1_i32_14 v5
  let v25 : BitVec 32 := Scalar.addi v23 v24
  let c4096_i32_1377 : BitVec 32 := 4096#32
  let v1209 : BitVec 32 := Scalar.muli v25 c4096_i32_1377
  let v1210 : BitVec 32 := Scalar.addi v1209 c0_i32_1378
  let c0_i32_1396 : BitVec 32 := 0#32
  ![v1210.toNat, 0]
def k0_dev32 (d0 : Dev nD) : Nat :=
  let c0_i32_1441 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1440 : BitVec 32 := 8#32
  let v1265 : BitVec 32 := Scalar.muli v2 c8_i32_1440
  let v1266 : BitVec 32 := Scalar.addi c0_i32_1441 v1265
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1442 : BitVec 32 := 4#32
  let v1267 : BitVec 32 := Scalar.muli v5 c4_i32_1442
  let v1268 : BitVec 32 := Scalar.addi v1266 v1267
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let v10 : BitVec 32 := Scalar.remsi v9 c4_i32_3
  let c1_i32_1443 : BitVec 32 := 1#32
  let v1269 : BitVec 32 := Scalar.muli v10 c1_i32_1443
  let v1270 : BitVec 32 := Scalar.addi v1268 v1269
  v1270.toNat
def k0_dev33 (d0 : Dev nD) : Nat :=
  let c0_i32_1500 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1499 : BitVec 32 := 8#32
  let v1314 : BitVec 32 := Scalar.muli v2 c8_i32_1499
  let v1315 : BitVec 32 := Scalar.addi c0_i32_1500 v1314
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1501 : BitVec 32 := 4#32
  let v1316 : BitVec 32 := Scalar.muli v5 c4_i32_1501
  let v1317 : BitVec 32 := Scalar.addi v1315 v1316
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let v10 : BitVec 32 := Scalar.remsi v9 c4_i32_3
  let c1_i32_1502 : BitVec 32 := 1#32
  let v1318 : BitVec 32 := Scalar.muli v10 c1_i32_1502
  let v1319 : BitVec 32 := Scalar.addi v1317 v1318
  v1319.toNat
def k0_dev34 (d0 : Dev nD) : Nat :=
  let c0_i32_1559 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1558 : BitVec 32 := 8#32
  let v1363 : BitVec 32 := Scalar.muli v2 c8_i32_1558
  let v1364 : BitVec 32 := Scalar.addi c0_i32_1559 v1363
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1560 : BitVec 32 := 4#32
  let v1365 : BitVec 32 := Scalar.muli v5 c4_i32_1560
  let v1366 : BitVec 32 := Scalar.addi v1364 v1365
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let v10 : BitVec 32 := Scalar.remsi v9 c4_i32_3
  let c1_i32_1561 : BitVec 32 := 1#32
  let v1367 : BitVec 32 := Scalar.muli v10 c1_i32_1561
  let v1368 : BitVec 32 := Scalar.addi v1366 v1367
  v1368.toNat
def k0_off14 (d0 : Dev nD) : Fin 3 → Nat :=
  let c3_1605 : Index := 3#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1593 : BitVec 32 := 1#32
  let v1395 : BitVec 32 := Scalar.addi v8 c1_i32_1593
  let c4_i32_1594 : BitVec 32 := 4#32
  let v1396 : BitVec 32 := Scalar.remsi v1395 c4_i32_1594
  let c256_i32_1604 : BitVec 32 := 256#32
  let v1407 : BitVec 32 := Scalar.muli v1396 c256_i32_1604
  let v1408 : Index := Scalar.indexCast v1407
  let c0_1606 : Index := 0#32
  ![3, v1408.toNat, 0]
def k0_dev35 (d0 : Dev nD) : Nat :=
  let c0_i32_1619 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1618 : BitVec 32 := 8#32
  let v1415 : BitVec 32 := Scalar.muli v2 c8_i32_1618
  let v1416 : BitVec 32 := Scalar.addi c0_i32_1619 v1415
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1620 : BitVec 32 := 4#32
  let v1417 : BitVec 32 := Scalar.muli v5 c4_i32_1620
  let v1418 : BitVec 32 := Scalar.addi v1416 v1417
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let v10 : BitVec 32 := Scalar.remsi v9 c4_i32_3
  let c1_i32_1621 : BitVec 32 := 1#32
  let v1419 : BitVec 32 := Scalar.muli v10 c1_i32_1621
  let v1420 : BitVec 32 := Scalar.addi v1418 v1419
  v1420.toNat
def k0_off15 (d0 : Dev nD) (c0_i32_1653 : BitVec 32) : Fin 3 → Nat :=
  let c3_1661 : Index := 3#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v1447 : BitVec 32 := Scalar.subi v8 c0_i32_1653
  let c4_i32_1654 : BitVec 32 := 4#32
  let v1448 : BitVec 32 := Scalar.addi v1447 c4_i32_1654
  let c4_i32_1655 : BitVec 32 := 4#32
  let v1449 : BitVec 32 := Scalar.remsi v1448 c4_i32_1655
  let c256_i32_1660 : BitVec 32 := 256#32
  let v1452 : BitVec 32 := Scalar.muli v1449 c256_i32_1660
  let v1453 : Index := Scalar.indexCast v1452
  let c0_1662 : Index := 0#32
  ![3, v1453.toNat, 0]
def k0_dev36 (d0 : Dev nD) : Nat :=
  let c0_i32_1671 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1670 : BitVec 32 := 8#32
  let v1457 : BitVec 32 := Scalar.muli v2 c8_i32_1670
  let v1458 : BitVec 32 := Scalar.addi c0_i32_1671 v1457
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1672 : BitVec 32 := 4#32
  let v1459 : BitVec 32 := Scalar.muli v5 c4_i32_1672
  let v1460 : BitVec 32 := Scalar.addi v1458 v1459
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let v10 : BitVec 32 := Scalar.remsi v9 c4_i32_3
  let c1_i32_1673 : BitVec 32 := 1#32
  let v1461 : BitVec 32 := Scalar.muli v10 c1_i32_1673
  let v1462 : BitVec 32 := Scalar.addi v1460 v1461
  v1462.toNat
def k0_dev37 (d0 : Dev nD) : Nat :=
  let c0_i32_1723 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1722 : BitVec 32 := 8#32
  let v1499 : BitVec 32 := Scalar.muli v2 c8_i32_1722
  let v1500 : BitVec 32 := Scalar.addi c0_i32_1723 v1499
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1724 : BitVec 32 := 4#32
  let v1501 : BitVec 32 := Scalar.muli v5 c4_i32_1724
  let v1502 : BitVec 32 := Scalar.addi v1500 v1501
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let v10 : BitVec 32 := Scalar.remsi v9 c4_i32_3
  let c1_i32_1725 : BitVec 32 := 1#32
  let v1503 : BitVec 32 := Scalar.muli v10 c1_i32_1725
  let v1504 : BitVec 32 := Scalar.addi v1502 v1503
  v1504.toNat
def k0_dev38 (d0 : Dev nD) : Nat :=
  let c0_i32_1775 : BitVec 32 := 0#32
  let c1_i32_1767 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v1541 : BitVec 32 := Scalar.subi c1_i32_1767 v2
  let c8_i32_1774 : BitVec 32 := 8#32
  let v1543 : BitVec 32 := Scalar.muli v1541 c8_i32_1774
  let v1544 : BitVec 32 := Scalar.addi c0_i32_1775 v1543
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1776 : BitVec 32 := 4#32
  let v1545 : BitVec 32 := Scalar.muli v5 c4_i32_1776
  let v1546 : BitVec 32 := Scalar.addi v1544 v1545
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1777 : BitVec 32 := 1#32
  let v1547 : BitVec 32 := Scalar.muli v8 c1_i32_1777
  let v1548 : BitVec 32 := Scalar.addi v1546 v1547
  v1548.toNat
def k0_dev39 (d0 : Dev nD) : Nat :=
  let c0_i32_1788 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1787 : BitVec 32 := 8#32
  let v1557 : BitVec 32 := Scalar.muli v2 c8_i32_1787
  let v1558 : BitVec 32 := Scalar.addi c0_i32_1788 v1557
  let c1_i32_1768 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v1542 : BitVec 32 := Scalar.subi c1_i32_1768 v5
  let c4_i32_1789 : BitVec 32 := 4#32
  let v1559 : BitVec 32 := Scalar.muli v1542 c4_i32_1789
  let v1560 : BitVec 32 := Scalar.addi v1558 v1559
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1790 : BitVec 32 := 1#32
  let v1561 : BitVec 32 := Scalar.muli v8 c1_i32_1790
  let v1562 : BitVec 32 := Scalar.addi v1560 v1561
  v1562.toNat
def k0_dev40 (d0 : Dev nD) : Nat :=
  let c0_i32_1849 : BitVec 32 := 0#32
  let c1_i32_1841 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v1607 : BitVec 32 := Scalar.subi c1_i32_1841 v2
  let c8_i32_1848 : BitVec 32 := 8#32
  let v1609 : BitVec 32 := Scalar.muli v1607 c8_i32_1848
  let v1610 : BitVec 32 := Scalar.addi c0_i32_1849 v1609
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1850 : BitVec 32 := 4#32
  let v1611 : BitVec 32 := Scalar.muli v5 c4_i32_1850
  let v1612 : BitVec 32 := Scalar.addi v1610 v1611
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1851 : BitVec 32 := 1#32
  let v1613 : BitVec 32 := Scalar.muli v8 c1_i32_1851
  let v1614 : BitVec 32 := Scalar.addi v1612 v1613
  v1614.toNat
def k0_dev41 (d0 : Dev nD) : Nat :=
  let c0_i32_1862 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1861 : BitVec 32 := 8#32
  let v1623 : BitVec 32 := Scalar.muli v2 c8_i32_1861
  let v1624 : BitVec 32 := Scalar.addi c0_i32_1862 v1623
  let c1_i32_1842 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v1608 : BitVec 32 := Scalar.subi c1_i32_1842 v5
  let c4_i32_1863 : BitVec 32 := 4#32
  let v1625 : BitVec 32 := Scalar.muli v1608 c4_i32_1863
  let v1626 : BitVec 32 := Scalar.addi v1624 v1625
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1864 : BitVec 32 := 1#32
  let v1627 : BitVec 32 := Scalar.muli v8 c1_i32_1864
  let v1628 : BitVec 32 := Scalar.addi v1626 v1627
  v1628.toNat
def k0_dev42 (d0 : Dev nD) : Nat :=
  let c0_i32_2017 : BitVec 32 := 0#32
  let c1_i32_2009 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v1757 : BitVec 32 := Scalar.subi c1_i32_2009 v2
  let c8_i32_2016 : BitVec 32 := 8#32
  let v1759 : BitVec 32 := Scalar.muli v1757 c8_i32_2016
  let v1760 : BitVec 32 := Scalar.addi c0_i32_2017 v1759
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2018 : BitVec 32 := 4#32
  let v1761 : BitVec 32 := Scalar.muli v5 c4_i32_2018
  let v1762 : BitVec 32 := Scalar.addi v1760 v1761
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2019 : BitVec 32 := 1#32
  let v1763 : BitVec 32 := Scalar.muli v8 c1_i32_2019
  let v1764 : BitVec 32 := Scalar.addi v1762 v1763
  v1764.toNat
def k0_dev43 (d0 : Dev nD) : Nat :=
  let c0_i32_2030 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2029 : BitVec 32 := 8#32
  let v1773 : BitVec 32 := Scalar.muli v2 c8_i32_2029
  let v1774 : BitVec 32 := Scalar.addi c0_i32_2030 v1773
  let c1_i32_2010 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v1758 : BitVec 32 := Scalar.subi c1_i32_2010 v5
  let c4_i32_2031 : BitVec 32 := 4#32
  let v1775 : BitVec 32 := Scalar.muli v1758 c4_i32_2031
  let v1776 : BitVec 32 := Scalar.addi v1774 v1775
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2032 : BitVec 32 := 1#32
  let v1777 : BitVec 32 := Scalar.muli v8 c1_i32_2032
  let v1778 : BitVec 32 := Scalar.addi v1776 v1777
  v1778.toNat
-- ==== ReferenceIdeal.lean ====
abbrev S65536x1024 : Shape := ⟨2, ![65536, 1024]⟩
abbrev S4x16384x1024 : Shape := ⟨3, ![4, 16384, 1024]⟩
abbrev S_ : Shape := ⟨0, ![]⟩
abbrev S16384x1024 : Shape := ⟨2, ![16384, 1024]⟩

abbrev nBuf : Space → Nat
  | .hbm => 5
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S4x16384x1024, .f32⟩
  | .hbm, ⟨2, _⟩ => ⟨S_, .f32⟩
  | .hbm, ⟨3, _⟩ => ⟨S16384x1024, .f32⟩
  | .hbm, ⟨4, _⟩ => ⟨S16384x1024, .bf16⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.K.BodyEq.lean ====
module

public import proofs.«01_k».proof.Proof.K.Prog

@[expose] public section

noncomputable section

namespace Cert.Kernel.Proof

open Idealize.ShloMosaic Idealize.SL.Sem
open Cert.Kernel.Gen

variable {F : FTy → Type} [FloatOps F]

set_option maxRecDepth 65536 in
set_option maxHeartbeats 20000000 in
/-- The printed body is the sequence of steps. -/
theorem body_eq (t : Fin cfg0.N) : bodyAt0 (F := F) t = bodyP := by
  unfold bodyAt0
  rw [cc0_body_eq_skeleton]
  simp only [cc0_body_skel, bodyP, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part1_skel, k0_part2_skel, k0_part3_skel, k0_part4_skel, k0_part5_skel, k0_part6_skel, k0_part7_skel, k0_part8_skel, k0_part9_skel, k0_part10_skel, k0_part11_skel, k0_part12_skel, k0_part13_skel, k0_part14_skel, k0_part15_skel, k0_part16_skel, k0_part17_skel, k0_part18_skel, k0_part19_skel, k0_part20_skel, k0_part21_skel, k0_part22_skel, k0_part23_skel, k0_part24_skel, k0_part25_skel, k0_part26_skel, k0_part27_skel, k0_part28_skel, k0_part29_skel, k0_part30_skel, k0_part31_skel, k0_part32_skel, k0_part33_skel, k0_part34_skel, k0_part35_skel, k0_part36_skel, k0_part37_skel, k0_part38_skel, k0_part39_skel, k0_part40_skel, k0_part41_skel, k0_part42_skel, k0_part43_skel, k0_part44_skel, k0_part45_skel, k0_part46_skel, k0_part47_skel, k0_part48_skel, k0_part49_skel, k0_part50_skel, k0_part51_skel, k0_part52_skel, k0_part53_skel, k0_part54_skel, k0_part55_skel, k0_part56_skel, k0_part57_skel, k0_part58_skel, k0_part59_skel, k0_part60_skel, k0_part61_skel, k0_part62_skel, k0_part63_skel, k0_part64_skel, k0_part65_skel, k0_part66_skel, k0_part67_skel, k0_part68_skel, k0_part69_skel, k0_part70_skel, k0_part71_skel, k0_part72_skel, k0_part73_skel, mainP, loopP, entryP, ldStart, ldWait, ringP, stageP, hopP, accP, ownP, putP, stGat, ldSlot, stSlot, ldBlk, xyP, s1P, s2P, sendChunk, waitChunk, sendHalf, waitHalf, outStart, outWait, bind_assoc, pure_bind]
  rfl

end Cert.Kernel.Proof

end
-- ==== Proof.KI.Prog.lean ====
module

public import proofs.«01_k».proof.Proof.Gen.KernelIdeal.Skeleton
public import proofs.«01_k».proof.Proof.Gen.KernelIdeal.Points

/-! The kernel's body written again as a sequence of named steps, one name per kind of step, and the equation that
    the printed body is that sequence. Every memory operand is a member of a small family: slot `(k, s)` of a ring
    buffer, chunk `k` of a gathered buffer, half a chunk, one of the two staging slots, a block of rows. -/

@[expose] public section

noncomputable section

namespace Cert.KernelIdeal.Proof

open Idealize.ShloMosaic Idealize.SL.Sem
open Cert.KernelIdeal.Gen

variable {F : FTy → Type} [FloatOps F]

/-! ## Operand families -/

theorem inb_slot4 (k s : Fin 4) : ∀ a, (![k.val, s.val, 0, 0] : Fin 4 → ℕ) a + S1x1x256x1024.size a ≤ S4x4x256x1024.size a := by
  revert k s; decide
theorem inb_slot3 (k : Fin 4) : ∀ a, (![k.val, 0, 0] : Fin 3 → ℕ) a + S1x1024x1024.size a ≤ S4x1024x1024.size a := by
  revert k; decide
theorem inb_half (k : Fin 4) (h : Fin 2) : ∀ a, (![k.val, 512 * h.val, 0] : Fin 3 → ℕ) a + S1x512x1024.size a ≤ S4x1024x1024.size a := by
  revert k h; decide
theorem inb_xv (j : Fin 2) : ∀ a, (![j.val, 0, 0] : Fin 3 → ℕ) a + S1x1024x1024.size a ≤ S2x1024x1024.size a := by
  revert j; decide
theorem inb_row (i : Fin 16) : ∀ a, (![1024 * i.val, 0] : Fin 2 → ℕ) a + S1024x1024.size a ≤ S16384x1024.size a := by
  revert i; decide
theorem inb_gblk (k q : Fin 4) : ∀ a, (![k.val, 256 * q.val, 0] : Fin 3 → ℕ) a + S1x256x1024.size a ≤ S4x1024x1024.size a := by
  revert k q; decide
theorem inb_xblk (q : Fin 4) : ∀ a, (![256 * q.val, 0] : Fin 2 → ℕ) a + S256x1024.size a ≤ S1024x1024.size a := by
  revert q; decide

theorem words_slot4 (k s : Fin 4) : (Rect.unit (s := S4x4x256x1024) ![k.val, s.val, 0, 0] S1x1x256x1024.size (inb_slot4 k s)).WholeWords (EltTy.packing .bf16) := by
  revert k s; decide +kernel
theorem packed_slot4 (k s : Fin 4) : (Rect.unit (s := S4x4x256x1024) ![k.val, s.val, 0, 0] S1x1x256x1024.size (inb_slot4 k s)).PackedRows (EltTy.packing .bf16) := by
  revert k s; decide +kernel
theorem words_slot3 (k : Fin 4) : (Rect.unit (s := S4x1024x1024) ![k.val, 0, 0] S1x1024x1024.size (inb_slot3 k)).WholeWords (EltTy.packing .bf16) := by
  revert k; decide +kernel
theorem words_half (k : Fin 4) (h : Fin 2) : (Rect.unit (s := S4x1024x1024) ![k.val, 512 * h.val, 0] S1x512x1024.size (inb_half k h)).WholeWords (EltTy.packing .bf16) := by
  revert k h; decide +kernel
theorem words_row (i : Fin 16) : (Rect.unit (s := S16384x1024) ![1024 * i.val, 0] S1024x1024.size (inb_row i)).WholeWords (EltTy.packing .bf16) := by
  revert i; decide +kernel
theorem packed_gblk (k q : Fin 4) : (Rect.unit (s := S4x1024x1024) ![k.val, 256 * q.val, 0] S1x256x1024.size (inb_gblk k q)).PackedRows (EltTy.packing .bf16) := by
  revert k q; decide +kernel

/-- The rectangle of slot `(k, s)` of a ring buffer. -/
abbrev slotR (k s : Fin 4) : Rect S4x4x256x1024 := Rect.unit (s := S4x4x256x1024) ![k.val, s.val, 0, 0] S1x1x256x1024.size (inb_slot4 k s)
/-- Slot `(k, s)` of the ring buffer `b`. -/
abbrev slotM (b : Memref sig .tc .vmem S4x4x256x1024 .bf16) (k s : Fin 4) : Memref sig .tc .vmem S256x1024 .bf16 :=
  (b.slice (slotR k s) (fun _ => rfl)).squeeze S256x1024 squeezes_S1x1x256x1024_S256x1024
/-- The rectangle of chunk `k`. -/
abbrev chunkR (k : Fin 4) : Rect S4x1024x1024 := Rect.unit (s := S4x1024x1024) ![k.val, 0, 0] S1x1024x1024.size (inb_slot3 k)
/-- Chunk `k` of the four-chunk buffer `b`. -/
abbrev chunkM (b : Memref sig .tc .vmem S4x1024x1024 .bf16) (k : Fin 4) : Memref sig .tc .vmem S1024x1024 .bf16 :=
  (b.slice (chunkR k) (fun _ => rfl)).squeeze S1024x1024 squeezes_S1x1024x1024_S1024x1024
/-- The rectangle of half `h` of chunk `k`. -/
abbrev halfR (k : Fin 4) (h : Fin 2) : Rect S4x1024x1024 := Rect.unit (s := S4x1024x1024) ![k.val, 512 * h.val, 0] S1x512x1024.size (inb_half k h)
/-- Half `h` (512 rows) of chunk `k` of the buffer `b`. -/
abbrev halfM (b : Memref sig .tc .vmem S4x1024x1024 .bf16) (k : Fin 4) (h : Fin 2) : Memref sig .tc .vmem S512x1024 .bf16 :=
  (b.slice (halfR k h) (fun _ => rfl)).squeeze S512x1024 squeezes_S1x512x1024_S512x1024
/-- The rectangle of staging slot `j`. -/
abbrev xvR (j : Fin 2) : Rect S2x1024x1024 := Rect.unit (s := S2x1024x1024) ![j.val, 0, 0] S1x1024x1024.size (inb_xv j)
/-- Staging slot `j`, where a chunk of the argument is loaded. -/
abbrev xvM (j : Fin 2) : Memref sig .tc .vmem S1024x1024 .f32 :=
  ((Memref.whole cc0_scratch0 : Memref sig .tc .vmem S2x1024x1024 .f32).slice (xvR j) (fun _ => rfl)).squeeze S1024x1024 squeezes_S1x1024x1024_S1024x1024
/-- The rectangle of the `i`-th 1024 rows of the argument, or of the result. -/
abbrev rowR (i : Fin 16) : Rect S16384x1024 := Rect.unit (s := S16384x1024) ![1024 * i.val, 0] S1024x1024.size (inb_row i)
/-- The `i`-th 1024 rows of the argument. -/
abbrev argM (i : Fin 16) : Memref sig .tc .hbm S1024x1024 .f32 :=
  (Memref.whole main_arg0 : Memref sig .tc .hbm S16384x1024 .f32).slice (rowR i) (fun _ => rfl)
/-- The `i`-th 1024 rows of the result. -/
abbrev outM (i : Fin 16) : Memref sig .tc .hbm S1024x1024 .bf16 :=
  (Memref.whole main_v1 : Memref sig .tc .hbm S16384x1024 .bf16).slice (rowR i) (fun _ => rfl)
/-- Block `q` (256 rows) of chunk `k`, as a rectangle of the four-chunk buffer. -/
abbrev gblkR (k q : Fin 4) : Rect S4x1024x1024 := Rect.unit (s := S4x1024x1024) ![k.val, 256 * q.val, 0] S1x256x1024.size (inb_gblk k q)
/-- Block `q` (256 rows) of a staging slot. -/
abbrev xblkR (q : Fin 4) : Rect S1024x1024 := Rect.unit (s := S1024x1024) ![256 * q.val, 0] S256x1024.size (inb_xblk q)

abbrev rsB : Memref sig .tc .vmem S4x4x256x1024 .bf16 := Memref.whole cc0_scratch1
abbrev agB : Memref sig .tc .vmem S4x4x256x1024 .bf16 := Memref.whole cc0_scratch2
abbrev gB : Memref sig .tc .vmem S4x1024x1024 .bf16 := Memref.whole cc0_scratch3
abbrev xB : Memref sig .tc .vmem S4x1024x1024 .bf16 := Memref.whole cc0_scratch4
abbrev yB : Memref sig .tc .vmem S4x1024x1024 .bf16 := Memref.whole cc0_scratch5
abbrev dB : Memref sig .tc .vmem S4x1024x1024 .bf16 := Memref.whole cc0_scratch6

/-! ## Semaphore families -/

theorem inb_sem2 (j : Fin 2) : ∀ a, (![j.val] : Fin 1 → ℕ) a + S1.size a ≤ S2.size a := by revert j; decide
theorem inb_sem3 (j : Fin 3) : ∀ a, (![j.val] : Fin 1 → ℕ) a + S1.size a ≤ S3.size a := by revert j; decide
theorem inb_sem4 (j : Fin 4) : ∀ a, (![j.val] : Fin 1 → ℕ) a + S1.size a ≤ S4.size a := by revert j; decide
theorem inb_sem44 (k s : Fin 4) : ∀ a, (![k.val, s.val] : Fin 2 → ℕ) a + S1x1.size a ≤ S4x4.size a := by revert k s; decide

/-- One semaphore of an array of two, of three, of four, and of four by four. -/
abbrev at2 (a : DmaSems sig S2) (j : Fin 2) : DmaSem sig := ((a.slice (Rect.unit (s := S2) ![j.val] S1.size (inb_sem2 j))).squeeze S_ squeezes_S1_S_).sem
abbrev at3 (a : DmaSems sig S3) (j : Fin 3) : DmaSem sig := ((a.slice (Rect.unit (s := S3) ![j.val] S1.size (inb_sem3 j))).squeeze S_ squeezes_S1_S_).sem
abbrev at4 (a : DmaSems sig S4) (j : Fin 4) : DmaSem sig := ((a.slice (Rect.unit (s := S4) ![j.val] S1.size (inb_sem4 j))).squeeze S_ squeezes_S1_S_).sem
abbrev at44 (a : DmaSems sig S4x4) (k s : Fin 4) : DmaSem sig := ((a.slice (Rect.unit (s := S4x4) ![k.val, s.val] S1x1.size (inb_sem44 k s))).squeeze S_ squeezes_S1x1_S_).sem

abbrev ldSem (j : Fin 2) : DmaSem sig := at2 cc0_scratch7 j
abbrev outSem (j : Fin 4) : DmaSem sig := at4 cc0_scratch8 j
abbrev rsSnd (j : Fin 3) : DmaSem sig := at3 cc0_scratch9 j
abbrev rsRcv (k s : Fin 4) : DmaSem sig := at44 cc0_scratch10 k s
abbrev agSnd (j : Fin 3) : DmaSem sig := at3 cc0_scratch11 j
abbrev agRcv (k s : Fin 4) : DmaSem sig := at44 cc0_scratch12 k s
abbrev p2Snd (k s : Fin 4) : DmaSem sig := at44 cc0_scratch13 k s
abbrev xRcv (k : Fin 4) : DmaSem sig := at4 cc0_scratch14 k
abbrev yRcv (k : Fin 4) : DmaSem sig := at4 cc0_scratch15 k
abbrev dxRcv (k : Fin 4) : DmaSem sig := at4 cc0_scratch16 k
abbrev dyRcv (k : Fin 4) : DmaSem sig := at4 cc0_scratch17 k
/-- The barrier semaphore. -/
abbrev barS : Sem sig := (SemArray.scalar (sig.barrier 0 rfl) : Sems sig S_).sem

/-! ## The arithmetic of one ring step -/

/-- A block rounded to bf16, as a slot's contents. -/
def roundV (w : Vec F S256x1024 .f32) : FVec F S256x1024 .bf16 := truncf .bf16 w bitsLt_bf16_f32
/-- A slot's partial sum, widened, plus a block, rounded. -/
def addV (a : FVec F S256x1024 .bf16) (w : Vec F S256x1024 .f32) : FVec F S256x1024 .bf16 :=
  truncf .bf16 (addf (extf .f32 a bitsLt_bf16_f32) w) bitsLt_bf16_f32
/-- The shape casts between a block and the shape of the rectangle it is read from or stored to. -/
def toSlot (a : FVec F S256x1024 .bf16) : FVec F S1x1x256x1024 .bf16 := shapeCast S1x1x256x1024 a shapeCasts_S256x1024_S1x1x256x1024
def ofSlot (a : FVec F S1x1x256x1024 .bf16) : FVec F S256x1024 .bf16 := shapeCast S256x1024 a shapeCasts_S1x1x256x1024_S256x1024
def toBlk (a : FVec F S256x1024 .bf16) : FVec F S1x256x1024 .bf16 := shapeCast S1x256x1024 a shapeCasts_S256x1024_S1x256x1024

/-! ## The steps -/

abbrev KProg (F : FTy → Type) [FloatOps F] (α : Type) : Type _ := Prog (TpuEff nD τ sig (Elt F) Λ₀ .tc) α

/-- The offsets of a 1024-row window of the argument or of the result. -/
abbrev RowInb (o : Fin 2 → ℕ) : Prop := ∀ a, o a + S1024x1024.size a ≤ S16384x1024.size a
/-- The offsets of a 256-row block of a staging slot. -/
abbrev BlkInb (o : Fin 2 → ℕ) : Prop := ∀ a, o a + S256x1024.size a ≤ S1024x1024.size a
/-- The offsets of a 256-row block of a four-chunk buffer. -/
abbrev GBlkInb (o : Fin 3 → ℕ) : Prop := ∀ a, o a + S1x256x1024.size a ≤ S4x1024x1024.size a

/-- The barrier: one unit to each of three devices, then a wait for three. -/
def entryP (d1 d2 d3 : Dev nD) : KProg F PUnit := do
  semSignalWord d1 barS 1#32
  semSignalWord d2 barS 1#32
  semSignalWord d3 barS 1#32
  semWaitWord barS 3#32

/-- Start the load of a 1024-row window into staging slot `j`. -/
def ldStart (j : Fin 2) (o : Fin 2 → ℕ) (h : RowInb o) : KProg F PUnit :=
  Prog.lift (.enqueueDma ((Memref.whole main_arg0 : Memref sig .tc .hbm S16384x1024 .f32).slice (Rect.unit (s := S16384x1024) o S1024x1024.size h) (fun _ => rfl))
    (.here (xvM j)) (.dma (ldSem j)) (View.wordExact_bits rfl) ((View.wordExact_bits rfl).reshape _ _) ⟨Or.inl rfl, trivial⟩)
/-- Wait for that load. -/
def ldWait (j : Fin 2) (o : Fin 2 → ℕ) (h : RowInb o) : KProg F PUnit :=
  Prog.lift (.waitDma2 (ldSem j) ((Memref.whole main_arg0 : Memref sig .tc .hbm S16384x1024 .f32).slice (Rect.unit (s := S16384x1024) o S1024x1024.size h) (fun _ => rfl))
    (xvM j) (View.wordExact_bits rfl) ((View.wordExact_bits rfl).reshape _ _))

/-- Read a 256-row block of staging slot `j`. -/
def ldBlk (j : Fin 2) (o : Fin 2 → ℕ) (h : BlkInb o) : KProg F (Vec F S256x1024 .f32) :=
  Prog.lift (.load (xvM j) (Rect.unit (s := S1024x1024) o S256x1024.size h).toLoadRect (View.loadsAt_vmem h_S256x1024))
/-- Read slot `(k, s)` of a ring buffer. -/
def ldSlot (b : Memref sig .tc .vmem S4x4x256x1024 .bf16) (k s : Fin 4) : KProg F (Vec F S1x1x256x1024 .bf16) :=
  Prog.lift (.load b (slotR k s).toLoadRect (View.loadsAt_vmem h_S1x1x256x1024))
/-- Store slot `(k, s)` of a ring buffer. -/
def stSlot (b : Memref sig .tc .vmem S4x4x256x1024 .bf16) (hb : b.IsWhole) (k s : Fin 4) (w : FVec F S1x1x256x1024 .bf16) : KProg F PUnit :=
  Prog.lift (.store b (slotR k s) w Finset.univ (View.stores_vmem h_S1x1x256x1024 (hb.storeExact_slice rfl _ (packed_slot4 k s)) (fun _ => rfl)) (.inl rfl))

/-- Store the device's own block, rounded, in slot `(k, 0)`. -/
def stageP (k : Fin 4) (j : Fin 2) (o : Fin 2 → ℕ) (h : BlkInb o) : KProg F PUnit := do
  let w ← ldBlk j o h
  let _ ← ldSlot rsB k 0
  stSlot rsB (Memref.isWhole_whole _) k 0 (toSlot (roundV w))

/-- One ring hop: slot `(k, s)` is sent to `dev`'s slot `(k, s+1)`, and both ends are waited for. -/
def hopP (b : Memref sig .tc .vmem S4x4x256x1024 .bf16) (hb : b.IsWhole) (snd : DmaSems sig S3) (rcv : DmaSems sig S4x4) (k : Fin 4) (s : Fin 3) (dev : Dev nD) : KProg F PUnit := do
  Prog.lift (.enqueueDma (slotM b k s.castSucc) (.remote (Dev.tc dev) (slotM b k s.succ) (.dma (at3 snd s))) (.dma (at44 rcv k s.succ))
    ((hb.wordExact_slice rfl _ (words_slot4 _ _)).reshape _ _) ((hb.wordExact_slice rfl _ (words_slot4 _ _)).reshape _ _) ⟨⟨rfl, Or.inl rfl⟩, trivial⟩)
  Prog.lift (.waitDma2 (at3 snd s) (slotM b k s.succ) (slotM b k s.castSucc)
    ((hb.wordExact_slice rfl _ (words_slot4 _ _)).reshape _ _) ((hb.wordExact_slice rfl _ (words_slot4 _ _)).reshape _ _))
  Prog.lift (.waitDma2 (at44 rcv k s.succ) (slotM b k s.castSucc) (slotM b k s.succ)
    ((hb.wordExact_slice rfl _ (words_slot4 _ _)).reshape _ _) ((hb.wordExact_slice rfl _ (words_slot4 _ _)).reshape _ _))

/-- Add a block of the staging slot to the partial sum in slot `(k, s)`. -/
def accP (k s : Fin 4) (j : Fin 2) (o : Fin 2 → ℕ) (h : BlkInb o) : KProg F PUnit := do
  let a ← ldSlot rsB k s
  let w ← ldBlk j o h
  let _ ← ldSlot rsB k s
  stSlot rsB (Memref.isWhole_whole _) k s (toSlot (addV (ofSlot a) w))

/-- Store a block of the gathered buffer. -/
def stGat (o : Fin 3 → ℕ) (h : GBlkInb o) (hp : (Rect.unit (s := S4x1024x1024) o S1x256x1024.size h).PackedRows (EltTy.packing .bf16))
    (w : FVec F S1x256x1024 .bf16) : KProg F PUnit := do
  let _ ← (Prog.lift (.load gB (Rect.unit (s := S4x1024x1024) o S1x256x1024.size h).toLoadRect (View.loadsAt_vmem h_S1x256x1024)) : KProg F (Vec F S1x256x1024 .bf16))
  Prog.lift (.store gB (Rect.unit (s := S4x1024x1024) o S1x256x1024.size h) w Finset.univ
    (View.stores_vmem h_S1x256x1024 ((Memref.isWhole_whole _).storeExact_slice rfl _ hp) (fun _ => rfl)) (.inl rfl))

/-- The last addition: the block this device owns, stored in the gathered buffer and in slot `(k, 0)` of the second ring. -/
def ownP (k : Fin 4) (j : Fin 2) (o : Fin 2 → ℕ) (h : BlkInb o) (o' : Fin 3 → ℕ) (h' : GBlkInb o')
    (hp : (Rect.unit (s := S4x1024x1024) o' S1x256x1024.size h').PackedRows (EltTy.packing .bf16)) : KProg F PUnit := do
  let a ← ldSlot rsB k 3
  let w ← ldBlk j o h
  stGat o' h' hp (toBlk (addV (ofSlot a) w))
  let _ ← ldSlot agB k 0
  stSlot agB (Memref.isWhole_whole _) k 0 (toSlot (addV (ofSlot a) w))

/-- Put the block received in slot `(k, s)` of the second ring in the gathered buffer. -/
def putP (k s : Fin 4) (o' : Fin 3 → ℕ) (h' : GBlkInb o')
    (hp : (Rect.unit (s := S4x1024x1024) o' S1x256x1024.size h').PackedRows (EltTy.packing .bf16)) : KProg F PUnit := do
  let a ← ldSlot agB k s
  stGat o' h' hp (toBlk (ofSlot a))

/-- Send a chunk of the buffer `b` to `dev`'s buffer `b'`. -/
def sendChunk (b b' : Memref sig .tc .vmem S4x1024x1024 .bf16) (hb : b.IsWhole) (hb' : b'.IsWhole) (k : Fin 4) (ss rs : DmaSem sig) (dev : Dev nD) : KProg F PUnit :=
  Prog.lift (.enqueueDma (chunkM b k) (.remote (Dev.tc dev) (chunkM b' k) (.dma ss)) (.dma rs)
    ((hb.wordExact_slice rfl _ (words_slot3 _)).reshape _ _) ((hb'.wordExact_slice rfl _ (words_slot3 _)).reshape _ _) ⟨⟨rfl, Or.inl rfl⟩, trivial⟩)
/-- Wait for one end of such a copy. -/
def waitChunk (b b' : Memref sig .tc .vmem S4x1024x1024 .bf16) (hb : b.IsWhole) (hb' : b'.IsWhole) (k : Fin 4) (ss : DmaSem sig) : KProg F PUnit :=
  Prog.lift (.waitDma2 ss (chunkM b k) (chunkM b' k)
    ((hb.wordExact_slice rfl _ (words_slot3 _)).reshape _ _) ((hb'.wordExact_slice rfl _ (words_slot3 _)).reshape _ _))
/-- Send half a chunk of the buffer `b` to `dev`'s buffer `b'`. -/
def sendHalf (b b' : Memref sig .tc .vmem S4x1024x1024 .bf16) (hb : b.IsWhole) (hb' : b'.IsWhole) (k : Fin 4) (h : Fin 2) (ss rs : DmaSem sig) (dev : Dev nD) : KProg F PUnit :=
  Prog.lift (.enqueueDma (halfM b k h) (.remote (Dev.tc dev) (halfM b' k h) (.dma ss)) (.dma rs)
    ((hb.wordExact_slice rfl _ (words_half _ _)).reshape _ _) ((hb'.wordExact_slice rfl _ (words_half _ _)).reshape _ _) ⟨⟨rfl, Or.inl rfl⟩, trivial⟩)
/-- Wait for one end of such a copy. -/
def waitHalf (b b' : Memref sig .tc .vmem S4x1024x1024 .bf16) (hb : b.IsWhole) (hb' : b'.IsWhole) (k : Fin 4) (h : Fin 2) (ss : DmaSem sig) : KProg F PUnit :=
  Prog.lift (.waitDma2 ss (halfM b k h) (halfM b' k h)
    ((hb.wordExact_slice rfl _ (words_half _ _)).reshape _ _) ((hb'.wordExact_slice rfl _ (words_half _ _)).reshape _ _))

/-- Send gathered chunk `k` to both peers. -/
def xyP (k : Fin 4) (devx devy : Dev nD) : KProg F PUnit := do
  sendChunk gB xB (Memref.isWhole_whole _) (Memref.isWhole_whole _) k (p2Snd k 0) (xRcv k) devx
  sendChunk gB yB (Memref.isWhole_whole _) (Memref.isWhole_whole _) k (p2Snd k 1) (yRcv k) devy

/-- Wait for both exchanges of chunk `k` and send each received half on. -/
def s1P (k : Fin 4) (devx devy : Dev nD) : KProg F PUnit := do
  waitChunk xB gB (Memref.isWhole_whole _) (Memref.isWhole_whole _) k (p2Snd k 0)
  waitChunk gB xB (Memref.isWhole_whole _) (Memref.isWhole_whole _) k (xRcv k)
  waitChunk yB gB (Memref.isWhole_whole _) (Memref.isWhole_whole _) k (p2Snd k 1)
  waitChunk gB yB (Memref.isWhole_whole _) (Memref.isWhole_whole _) k (yRcv k)
  sendHalf yB dB (Memref.isWhole_whole _) (Memref.isWhole_whole _) k 0 (p2Snd k 2) (dxRcv k) devx
  sendHalf xB dB (Memref.isWhole_whole _) (Memref.isWhole_whole _) k 1 (p2Snd k 3) (dyRcv k) devy

/-- Start the copy of a chunk of `b` to the result's window at `o`. -/
def outStart (b : Memref sig .tc .vmem S4x1024x1024 .bf16) (hb : b.IsWhole) (k j : Fin 4) (o : Fin 2 → ℕ) (h : RowInb o)
    (hw : (Rect.unit (s := S16384x1024) o S1024x1024.size h).WholeWords (EltTy.packing .bf16)) : KProg F PUnit :=
  Prog.lift (.enqueueDma (chunkM b k) (.here ((Memref.whole main_v1 : Memref sig .tc .hbm S16384x1024 .bf16).slice (Rect.unit (s := S16384x1024) o S1024x1024.size h) (fun _ => rfl)))
    (.dma (outSem j)) ((hb.wordExact_slice rfl _ (words_slot3 _)).reshape _ _) ((Memref.isWhole_whole _).wordExact_slice rfl _ hw) ⟨Or.inl rfl, trivial⟩)
/-- Wait for that copy. -/
def outWait (b : Memref sig .tc .vmem S4x1024x1024 .bf16) (hb : b.IsWhole) (k j : Fin 4) (o : Fin 2 → ℕ) (h : RowInb o)
    (hw : (Rect.unit (s := S16384x1024) o S1024x1024.size h).WholeWords (EltTy.packing .bf16)) : KProg F PUnit :=
  Prog.lift (.waitDma2 (outSem j) (chunkM b k) ((Memref.whole main_v1 : Memref sig .tc .hbm S16384x1024 .bf16).slice (Rect.unit (s := S16384x1024) o S1024x1024.size h) (fun _ => rfl))
    ((hb.wordExact_slice rfl _ (words_slot3 _)).reshape _ _) ((Memref.isWhole_whole _).wordExact_slice rfl _ hw))

/-- The four windows of the result that chunk `k` of the four buffers goes to. -/
structure OutOff where
  o : Fin 2 → ℕ
  h : RowInb o
  hw : (Rect.unit (s := S16384x1024) o S1024x1024.size h).WholeWords (EltTy.packing .bf16)

/-- Wait for the forwarded halves of chunk `k`, then copy the chunk of each buffer to the result. -/
def s2P (k : Fin 4) (q0 q1 q2 q3 : OutOff) : KProg F PUnit := do
  waitHalf dB yB (Memref.isWhole_whole _) (Memref.isWhole_whole _) k 0 (p2Snd k 2)
  waitHalf yB dB (Memref.isWhole_whole _) (Memref.isWhole_whole _) k 0 (dxRcv k)
  waitHalf dB xB (Memref.isWhole_whole _) (Memref.isWhole_whole _) k 1 (p2Snd k 3)
  waitHalf xB dB (Memref.isWhole_whole _) (Memref.isWhole_whole _) k 1 (dyRcv k)
  outStart gB (Memref.isWhole_whole _) k 0 q0.o q0.h q0.hw
  outStart xB (Memref.isWhole_whole _) k 1 q1.o q1.h q1.hw
  outStart yB (Memref.isWhole_whole _) k 2 q2.o q2.h q2.hw
  outStart dB (Memref.isWhole_whole _) k 3 q3.o q3.h q3.hw
  outWait gB (Memref.isWhole_whole _) k 0 q0.o q0.h q0.hw
  outWait xB (Memref.isWhole_whole _) k 1 q1.o q1.h q1.hw
  outWait yB (Memref.isWhole_whole _) k 2 q2.o q2.h q2.hw
  outWait dB (Memref.isWhole_whole _) k 3 q3.o q3.h q3.hw

/-- The offsets and devices of one chunk's two rings. -/
structure RingArgs where
  oa : Fin 2 → ℕ
  ha : BlkInb oa
  ob : Fin 2 → ℕ
  hb : BlkInb ob
  oc : Fin 2 → ℕ
  hc : BlkInb oc
  od : Fin 2 → ℕ
  hd : BlkInb od
  g0 : Fin 3 → ℕ
  hg0 : GBlkInb g0
  p0 : (Rect.unit (s := S4x1024x1024) g0 S1x256x1024.size hg0).PackedRows (EltTy.packing .bf16)
  g1 : Fin 3 → ℕ
  hg1 : GBlkInb g1
  p1 : (Rect.unit (s := S4x1024x1024) g1 S1x256x1024.size hg1).PackedRows (EltTy.packing .bf16)
  g2 : Fin 3 → ℕ
  hg2 : GBlkInb g2
  p2 : (Rect.unit (s := S4x1024x1024) g2 S1x256x1024.size hg2).PackedRows (EltTy.packing .bf16)
  g3 : Fin 3 → ℕ
  hg3 : GBlkInb g3
  p3 : (Rect.unit (s := S4x1024x1024) g3 S1x256x1024.size hg3).PackedRows (EltTy.packing .bf16)
  r0 : Dev nD
  r1 : Dev nD
  r2 : Dev nD
  a0 : Dev nD
  a1 : Dev nD
  a2 : Dev nD
  dx : Dev nD
  dy : Dev nD

/-- The two rings of chunk `k`, and the start of its exchanges with both peers. -/
def ringP (k : Fin 4) (j : Fin 2) (A : RingArgs) : KProg F PUnit := do
  stageP k j A.oa A.ha
  hopP rsB (Memref.isWhole_whole _) cc0_scratch9 cc0_scratch10 k 0 A.r0
  accP k 1 j A.ob A.hb
  hopP rsB (Memref.isWhole_whole _) cc0_scratch9 cc0_scratch10 k 1 A.r1
  accP k 2 j A.oc A.hc
  hopP rsB (Memref.isWhole_whole _) cc0_scratch9 cc0_scratch10 k 2 A.r2
  ownP k j A.od A.hd A.g0 A.hg0 A.p0
  hopP agB (Memref.isWhole_whole _) cc0_scratch11 cc0_scratch12 k 0 A.a0
  putP k 1 A.g1 A.hg1 A.p1
  hopP agB (Memref.isWhole_whole _) cc0_scratch11 cc0_scratch12 k 1 A.a1
  putP k 2 A.g2 A.hg2 A.p2
  hopP agB (Memref.isWhole_whole _) cc0_scratch11 cc0_scratch12 k 2 A.a2
  putP k 3 A.g3 A.hg3 A.p3
  xyP k A.dx A.dy

/-- The offsets and devices of chunk 0, as printed. -/
def args0 (d0 : Dev nD) : RingArgs where
  oa := k0_off2 d0
  ha := k0_off2_inb d0
  ob := k0_off3 d0 0#32
  hb := k0_off3_inb d0 0
  oc := k0_off3 d0 1#32
  hc := k0_off3_inb d0 1
  od := k0_off4 d0
  hd := k0_off4_inb d0
  g0 := k0_off5 d0
  hg0 := k0_off5_inb d0
  p0 := k0_off5_packedbf16 d0
  g1 := k0_off6 d0 0#32
  hg1 := k0_off6_inb d0 0
  p1 := k0_off6_packedbf16 d0 0
  g2 := k0_off6 d0 1#32
  hg2 := k0_off6_inb d0 1
  p2 := k0_off6_packedbf16 d0 1
  g3 := k0_off6 d0 2#32
  hg3 := k0_off6_inb d0 2
  p3 := k0_off6_packedbf16 d0 2
  r0 := ⟨k0_dev4 d0, k0_dev4_lt d0⟩
  r1 := ⟨k0_dev5 d0, k0_dev5_lt d0⟩
  r2 := ⟨k0_dev6 d0, k0_dev6_lt d0⟩
  a0 := ⟨k0_dev7 d0, k0_dev7_lt d0⟩
  a1 := ⟨k0_dev8 d0, k0_dev8_lt d0⟩
  a2 := ⟨k0_dev9 d0, k0_dev9_lt d0⟩
  dx := ⟨k0_dev10 d0, k0_dev10_lt d0⟩
  dy := ⟨k0_dev11 d0, k0_dev11_lt d0⟩

/-- The offsets and devices of chunk 1, as printed. -/
def args1 (d0 : Dev nD) : RingArgs where
  oa := k0_off2 d0
  ha := k0_off2_inb d0
  ob := k0_off3 d0 0#32
  hb := k0_off3_inb d0 0
  oc := k0_off3 d0 1#32
  hc := k0_off3_inb d0 1
  od := k0_off4 d0
  hd := k0_off4_inb d0
  g0 := k0_off7 d0
  hg0 := k0_off7_inb d0
  p0 := k0_off7_packedbf16 d0
  g1 := k0_off8 d0 0#32
  hg1 := k0_off8_inb d0 0
  p1 := k0_off8_packedbf16 d0 0
  g2 := k0_off8 d0 1#32
  hg2 := k0_off8_inb d0 1
  p2 := k0_off8_packedbf16 d0 1
  g3 := k0_off8 d0 2#32
  hg3 := k0_off8_inb d0 2
  p3 := k0_off8_packedbf16 d0 2
  r0 := ⟨k0_dev12 d0, k0_dev12_lt d0⟩
  r1 := ⟨k0_dev13 d0, k0_dev13_lt d0⟩
  r2 := ⟨k0_dev14 d0, k0_dev14_lt d0⟩
  a0 := ⟨k0_dev15 d0, k0_dev15_lt d0⟩
  a1 := ⟨k0_dev16 d0, k0_dev16_lt d0⟩
  a2 := ⟨k0_dev17 d0, k0_dev17_lt d0⟩
  dx := ⟨k0_dev18 d0, k0_dev18_lt d0⟩
  dy := ⟨k0_dev19 d0, k0_dev19_lt d0⟩

/-- The offsets and devices of chunk 2, as printed. -/
def args2 (d0 : Dev nD) : RingArgs where
  oa := k0_off2 d0
  ha := k0_off2_inb d0
  ob := k0_off3 d0 0#32
  hb := k0_off3_inb d0 0
  oc := k0_off3 d0 1#32
  hc := k0_off3_inb d0 1
  od := k0_off4 d0
  hd := k0_off4_inb d0
  g0 := k0_off9 d0
  hg0 := k0_off9_inb d0
  p0 := k0_off9_packedbf16 d0
  g1 := k0_off10 d0 0#32
  hg1 := k0_off10_inb d0 0
  p1 := k0_off10_packedbf16 d0 0
  g2 := k0_off10 d0 1#32
  hg2 := k0_off10_inb d0 1
  p2 := k0_off10_packedbf16 d0 1
  g3 := k0_off10 d0 2#32
  hg3 := k0_off10_inb d0 2
  p3 := k0_off10_packedbf16 d0 2
  r0 := ⟨k0_dev22 d0, k0_dev22_lt d0⟩
  r1 := ⟨k0_dev23 d0, k0_dev23_lt d0⟩
  r2 := ⟨k0_dev24 d0, k0_dev24_lt d0⟩
  a0 := ⟨k0_dev25 d0, k0_dev25_lt d0⟩
  a1 := ⟨k0_dev26 d0, k0_dev26_lt d0⟩
  a2 := ⟨k0_dev27 d0, k0_dev27_lt d0⟩
  dx := ⟨k0_dev28 d0, k0_dev28_lt d0⟩
  dy := ⟨k0_dev29 d0, k0_dev29_lt d0⟩

/-- The offsets and devices of chunk 3, as printed. -/
def args3 (d0 : Dev nD) : RingArgs where
  oa := k0_off2 d0
  ha := k0_off2_inb d0
  ob := k0_off3 d0 0#32
  hb := k0_off3_inb d0 0
  oc := k0_off3 d0 1#32
  hc := k0_off3_inb d0 1
  od := k0_off4 d0
  hd := k0_off4_inb d0
  g0 := k0_off14 d0
  hg0 := k0_off14_inb d0
  p0 := k0_off14_packedbf16 d0
  g1 := k0_off15 d0 0#32
  hg1 := k0_off15_inb d0 0
  p1 := k0_off15_packedbf16 d0 0
  g2 := k0_off15 d0 1#32
  hg2 := k0_off15_inb d0 1
  p2 := k0_off15_packedbf16 d0 1
  g3 := k0_off15 d0 2#32
  hg3 := k0_off15_inb d0 2
  p3 := k0_off15_packedbf16 d0 2
  r0 := ⟨k0_dev32 d0, k0_dev32_lt d0⟩
  r1 := ⟨k0_dev33 d0, k0_dev33_lt d0⟩
  r2 := ⟨k0_dev34 d0, k0_dev34_lt d0⟩
  a0 := ⟨k0_dev35 d0, k0_dev35_lt d0⟩
  a1 := ⟨k0_dev36 d0, k0_dev36_lt d0⟩
  a2 := ⟨k0_dev37 d0, k0_dev37_lt d0⟩
  dx := ⟨k0_dev38 d0, k0_dev38_lt d0⟩
  dy := ⟨k0_dev39 d0, k0_dev39_lt d0⟩

def oo0 (d0 : Dev nD) (r : Fin 4) : OutOff := ⟨k0_off1 d0 (BitVec.ofNat 32 (1024 * r.val)), k0_off1_inb d0 r, k0_off1_wordsbf16 d0 r⟩
def oo1 (d0 : Dev nD) (r : Fin 4) : OutOff := ⟨k0_off11 d0 (BitVec.ofNat 32 (1024 * r.val)), k0_off11_inb d0 r, k0_off11_wordsbf16 d0 r⟩
def oo2 (d0 : Dev nD) (r : Fin 4) : OutOff := ⟨k0_off12 d0 (BitVec.ofNat 32 (1024 * r.val)), k0_off12_inb d0 r, k0_off12_wordsbf16 d0 r⟩
def oo3 (d0 : Dev nD) (r : Fin 4) : OutOff := ⟨k0_off13 d0 (BitVec.ofNat 32 (1024 * r.val)), k0_off13_inb d0 r, k0_off13_wordsbf16 d0 r⟩

/-- The kernel after its entry barrier. -/
def loopP (d0 : Dev nD) : KProg F PUnit := do
  ldStart 0 (k0_off1 d0 0#32) (k0_off1_inb d0 0)
  ldWait 0 (k0_off1 d0 0#32) (k0_off1_inb d0 0)
  ldStart 1 (k0_off1 d0 1024#32) (k0_off1_inb d0 1)
  ringP 0 0 (args0 d0)
  ldWait 1 (k0_off1 d0 1024#32) (k0_off1_inb d0 1)
  ldStart 0 (k0_off1 d0 2048#32) (k0_off1_inb d0 2)
  ringP 1 1 (args1 d0)
  s1P 0 ⟨k0_dev20 d0, k0_dev20_lt d0⟩ ⟨k0_dev21 d0, k0_dev21_lt d0⟩
  ldWait 0 (k0_off1 d0 2048#32) (k0_off1_inb d0 2)
  ldStart 1 (k0_off1 d0 3072#32) (k0_off1_inb d0 3)
  ringP 2 0 (args2 d0)
  s1P 1 ⟨k0_dev30 d0, k0_dev30_lt d0⟩ ⟨k0_dev31 d0, k0_dev31_lt d0⟩
  s2P 0 (oo0 d0 0) (oo1 d0 0) (oo2 d0 0) (oo3 d0 0)
  ldWait 1 (k0_off1 d0 3072#32) (k0_off1_inb d0 3)
  ringP 3 1 (args3 d0)
  s1P 2 ⟨k0_dev40 d0, k0_dev40_lt d0⟩ ⟨k0_dev41 d0, k0_dev41_lt d0⟩
  s2P 1 (oo0 d0 1) (oo1 d0 1) (oo2 d0 1) (oo3 d0 1)
  s1P 3 ⟨k0_dev42 d0, k0_dev42_lt d0⟩ ⟨k0_dev43 d0, k0_dev43_lt d0⟩
  s2P 2 (oo0 d0 2) (oo1 d0 2) (oo2 d0 2) (oo3 d0 2)
  s2P 3 (oo0 d0 3) (oo1 d0 3) (oo2 d0 3) (oo3 d0 3)

/-- The kernel's body after the device is read. -/
def mainP (d0 : Dev nD) : KProg F PUnit := do
  entryP ⟨k0_dev1 d0, k0_dev1_lt d0⟩ ⟨k0_dev2 d0, k0_dev2_lt d0⟩ ⟨k0_dev3 d0, k0_dev3_lt d0⟩
  loopP d0

/-- The kernel's body. -/
def bodyP : KProg F PUnit := do
  let d0 ← (Prog.lift .deviceId : KProg F (Dev nD))
  mainP d0

end Cert.KernelIdeal.Proof

end
-- ==== Proof.KI.Sched.lean ====
module

public import proofs.«01_k».proof.Proof.KI.Prog
public import proofs.«01_k».proof.Proof.Gen.KernelIdeal.Launch
public import Idealize.ShloMosaic.Lib.Pipeline.Launch
public import Idealize.ShloMosaic.Lib.Pipeline.Kit
public import Idealize.ShloMosaic.Lib.Transfers
public import Idealize.ShloMosaic.Lib.Tactic

/-! Who sends what to whom. A device sits at `(x, y, z)` of a mesh of 2 by 2 by 4. For each of the four chunks it
    receives ten copies: three partial sums and three finished blocks from its neighbour around `z`, the finished chunk
    of its `x` peer and of its `y` peer, and the two halves of the diagonal device's chunk, one through each peer. Each
    such copy is an event; it has its own semaphore and its own place in memory, and what it carries is fixed by the
    arguments alone. This file names the devices, the events, what they carry, and the schedule of signals. -/

@[expose] public section

noncomputable section

namespace Cert.KernelIdeal.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight)
open Idealize.ShloMosaic.Pipeline (Dat Cfg Window BodyObligation cellOf)

variable {F : FTy → Type} [FloatOps F]

/-! ## The resource algebra -/

abbrev UB : Type := URounds (GSem nD τ sig) (Fin 3)
abbrev UU : Type := UR sig nD τ × (UB × Counters)

local notation "𝕄" => MT nD τ sig Unit (Elt F) ℕ UU ℕ

abbrev EP : Emb (UR sig nD τ) (MT nD τ sig Unit (Elt F) ℕ UU ℕ) := embL
/-- The schedule's ghost state: the left half of the right factor. -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance

abbrev 𝒱₀ : Variants := Variants.none

/-! ## Devices -/

set_option backward.proofsInPublic true in
/-- The device with the same `x` and `y` at place `z` around `z`. -/
def zdev (c : Dev nD) (z : Fin 4) : Dev nD := ⟨c.val / 4 * 4 + z.val, by have := c.isLt; have := z.isLt; simp only [nD] at *; omega⟩
set_option backward.proofsInPublic true in
/-- A device's place around `z`. -/
def mz (c : Dev nD) : Fin 4 := ⟨c.val % 4, Nat.mod_lt _ (by decide)⟩
set_option backward.proofsInPublic true in
/-- A device's place in its `x`, `y` square. -/
def quad (c : Dev nD) : Fin 4 := ⟨c.val / 4, by have := c.isLt; simp only [nD] at *; omega⟩
/-- The next device around `z`, the one before, the `x` peer and the `y` peer. -/
def right (c : Dev nD) : Dev nD := zdev c (mz c + 1)
def left (c : Dev nD) : Dev nD := zdev c (mz c + 3)
set_option backward.proofsInPublic true in
def px (c : Dev nD) : Dev nD := ⟨(c.val + 8) % 16, Nat.mod_lt _ (by decide)⟩
set_option backward.proofsInPublic true in
def py (c : Dev nD) : Dev nD := ⟨c.val / 8 * 8 + (c.val % 8 + 4) % 8, by have := c.isLt; simp only [nD] at *; omega⟩

theorem left_right (c : Dev nD) : left (right c) = c := by revert c; decide
theorem right_left (c : Dev nD) : right (left c) = c := by revert c; decide
theorem px_px (c : Dev nD) : px (px c) = c := by revert c; decide
theorem py_py (c : Dev nD) : py (py c) = c := by revert c; decide

/-! ## What the arguments determine -/

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-- Which 1024 rows of the argument device `c` works on as chunk `k`. -/
def tileIx (q k : Fin 4) : Fin 16 := ⟨4 * q.val + k.val, by have := q.isLt; have := k.isLt; omega⟩

/-- The argument of device `c`. -/
def argv (c : Dev nD) : Vec F S16384x1024 .f32 := m ((c : Thread nD τ).loc main_arg0)

/-- Chunk `k` of device `c`'s argument. -/
def chunkv (c : Dev nD) (k : Fin 4) : Vec F S1024x1024 .f32 := fun i => argv m c ((rowR (tileIx (quad c) k)).emb i)
/-- Block `q` of that chunk. -/
def blk (c : Dev nD) (k q : Fin 4) : Vec F S256x1024 .f32 := fun i => chunkv m c k ((xblkR q).emb i)
/-- What slot `s` of the first ring holds on device `c` once `c` has added its own block. -/
def part (k : Fin 4) : ℕ → Dev nD → FVec F S256x1024 .bf16
  | 0, c => roundV (blk m c k (mz c))
  | s + 1, c => addV (part k s (left c)) (blk m c k (mz c + 3 - Fin.ofNat 4 s))
/-- The finished block device `c` owns. -/
def owned (c : Dev nD) (k : Fin 4) : FVec F S256x1024 .bf16 := part m k 3 c

/-- What slot `s` of the second ring holds on device `c`: the finished block of the device `s` places before. -/
def agv (c : Dev nD) (k s : Fin 4) : FVec F S256x1024 .bf16 := owned m (zdev c (mz c - s)) k

/-- A row of a chunk as a row of its block. -/
def rowIn (i : S1024x1024.Idx) : S256x1024.Idx := fun a => match a with
  | ⟨0, _⟩ => ⟨(i 0).val % 256, Nat.mod_lt _ (by decide)⟩
  | ⟨1, _⟩ => ⟨(i 1).val, (i 1).isLt⟩
/-- Which block a row of a chunk lies in. -/
def blkOf (i : S1024x1024.Idx) : Fin 4 := ⟨(i 0).val / 256, by have : (i 0).val < 1024 := (i 0).isLt; omega⟩
/-- The finished chunk on device `c`: block `q` comes from the device at place `q + 3` around `z`. -/
def gat (c : Dev nD) (k : Fin 4) : FVec F S1024x1024 .bf16 := fun i => owned m (zdev c (blkOf i + 3)) k (rowIn i)
/-- Half of a chunk. -/
def halfE (h : Fin 2) (i : S512x1024.Idx) : S1024x1024.Idx := fun a => match a with
  | ⟨0, _⟩ => ⟨512 * h.val + (i 0).val, by have : (i 0).val < 512 := (i 0).isLt; have := h.isLt; show _ < 1024; omega⟩
  | ⟨1, _⟩ => ⟨(i 1).val, (i 1).isLt⟩
def halfOf {α : Type} (h : Fin 2) (X : S1024x1024.Idx → α) : S512x1024.Idx → α := fun i => X (halfE h i)

/-! ## Events -/

inductive Kind where
  | rs (s : Fin 3) | ag (s : Fin 3) | x | y | dx | dy
  deriving DecidableEq

instance : Fintype Kind where
  elems := {.rs 0, .rs 1, .rs 2, .ag 0, .ag 1, .ag 2, .x, .y, .dx, .dy}
  complete e := by
    rcases e with s | s | _ | _ | _ | _
    · revert s; decide
    · revert s; decide
    all_goals decide

abbrev Ev : Type := Fin 4 × Kind

/-- The place of an event in a device's program: all devices pay them in this order. -/
def ord : Ev → ℕ
  | (k, .rs s) => (![0, 8, 18, 28] : Fin 4 → ℕ) k + s.val
  | (k, .ag s) => (![0, 8, 18, 28] : Fin 4 → ℕ) k + 3 + s.val
  | (k, .x) => (![0, 8, 18, 28] : Fin 4 → ℕ) k + 6
  | (k, .y) => (![0, 8, 18, 28] : Fin 4 → ℕ) k + 7
  | (k, .dx) => (![16, 26, 36, 38] : Fin 4 → ℕ) k
  | (k, .dy) => (![16, 26, 36, 38] : Fin 4 → ℕ) k + 1

/-- The device an event's copy goes to, from the sender, and back. -/
def tgt : Kind → Dev nD → Dev nD
  | .rs _ => right | .ag _ => right | .x => px | .dx => px | .y => py | .dy => py
def srcOf : Kind → Dev nD → Dev nD
  | .rs _ => left | .ag _ => left | .x => px | .dx => px | .y => py | .dy => py
theorem tgt_srcOf (e : Kind) (c : Dev nD) : tgt e (srcOf e c) = c := by
  cases e <;> simp only [tgt, srcOf, right_left, px_px, py_py]
theorem srcOf_tgt (e : Kind) (c : Dev nD) : srcOf e (tgt e c) = c := by
  cases e <;> simp only [tgt, srcOf, left_right, px_px, py_py]

/-- The receiver's semaphore. -/
def semR : Ev → DmaSem sig
  | (k, .rs s) => rsRcv k s.succ
  | (k, .ag s) => agRcv k s.succ
  | (k, .x) => xRcv k
  | (k, .y) => yRcv k
  | (k, .dx) => dxRcv k
  | (k, .dy) => dyRcv k

/-- The semaphores a device waits on only for its own copies: loads, results, and the sending ends. -/
abbrev LSem : Type := Fin 2 ⊕ Fin 4 ⊕ Fin 3 ⊕ Fin 3 ⊕ (Fin 4 × Fin 4)
def semL : LSem → DmaSem sig
  | .inl j => ldSem j
  | .inr (.inl j) => outSem j
  | .inr (.inr (.inl j)) => rsSnd j
  | .inr (.inr (.inr (.inl j))) => agSnd j
  | .inr (.inr (.inr (.inr (k, s)))) => p2Snd k s

set_option maxRecDepth 20000 in
theorem semR_inj : Function.Injective semR := by decide +kernel
set_option maxRecDepth 20000 in
theorem semL_inj : Function.Injective semL := by decide +kernel
set_option maxRecDepth 20000 in
theorem semR_ne_semL : ∀ (e : Ev) (l : LSem), semR e ≠ semL l := by decide +kernel
theorem ord_inj : Function.Injective ord := by decide +kernel
theorem ord_lt (e : Ev) : ord e < 40 := by revert e; decide +kernel

open Classical in
/-- The event a semaphore receives. -/
def evOf (g : SemLoc sig) : Option Ev := if h : ∃ e, g = .dma (semR e) then some h.choose else none
theorem evOf_semR (e : Ev) : evOf (.dma (semR e)) = some e := by
  have h : ∃ e', (SemLoc.dma (semR e) : SemLoc sig) = .dma (semR e') := ⟨e, rfl⟩
  unfold evOf; rw [dif_pos h]
  have := h.choose_spec
  exact congrArg some (semR_inj (SemLoc.dma.inj this)).symm
theorem evOf_reg (q : Sem sig) : evOf (.reg q) = none := by
  unfold evOf; exact dif_neg fun ⟨e, h⟩ => by cases h
theorem evOf_semL (l : LSem) : evOf (.dma (semL l)) = none := by
  unfold evOf; exact dif_neg fun ⟨e, h⟩ => semR_ne_semL e l (SemLoc.dma.inj h).symm
theorem evOf_eq_some {g : SemLoc sig} {e : Ev} (h : evOf g = some e) : g = .dma (semR e) := by
  unfold evOf at h
  split at h
  · next h' => rw [← Option.some.inj h]; exact h'.choose_spec
  · cases h

/-- What a copy credits. -/
def amt : Kind → ℕ
  | .rs _ => (slotM rsB 0 0).view.dmaCredit
  | .ag _ => (slotM rsB 0 0).view.dmaCredit
  | .x => (chunkM xB 0).view.dmaCredit
  | .y => (chunkM xB 0).view.dmaCredit
  | .dx => (halfM dB 0 0).view.dmaCredit
  | .dy => (halfM dB 0 0).view.dmaCredit
theorem amt_pos (e : Kind) : 0 < amt e := by
  cases e <;> exact View.dmaCredit_pos _ (by decide)

/-! ## What is handed over -/

/-- A memref held whole, at any contents. -/
def anyM (c : Dev nD) {sp : Space} {sh : Shape} {e : EltTy} (b : Memref sig .tc sp sh e) : sProp 𝕄 :=
  iprop(∃ X, owns (c : Thread nD τ) b fullShare X)
/-- A memref held whole, holding `X`. -/
abbrev ownM (c : Dev nD) {sp : Space} {sh : Shape} {e : EltTy} (b : Memref sig .tc sp sh e) (X : sh.Idx → Elt F e) : sProp 𝕄 :=
  owns (c : Thread nD τ) b fullShare X

/-- Where an event's copy lands on device `c`. -/
def land : Ev → Dev nD → sProp 𝕄
  | (k, .rs s), c => anyM (F := F) c (slotM rsB k s.succ)
  | (k, .ag s), c => anyM (F := F) c (slotM agB k s.succ)
  | (k, .x), c => anyM (F := F) c (chunkM xB k)
  | (k, .y), c => anyM (F := F) c (chunkM yB k)
  | (k, .dx), c => anyM (F := F) c (halfM dB k 0)
  | (k, .dy), c => anyM (F := F) c (halfM dB k 1)

/-- What has landed on device `c`. -/
def pay : Ev → Dev nD → sProp 𝕄
  | (k, .rs s), c => ownM c (slotM rsB k s.succ) (part m k s (left c))
  | (k, .ag s), c => ownM c (slotM agB k s.succ) (agv m c k s.succ)
  | (k, .x), c => ownM c (chunkM xB k) (gat m (px c) k)
  | (k, .y), c => ownM c (chunkM yB k) (gat m (py c) k)
  | (k, .dx), c => ownM c (halfM dB k 0) (halfOf 0 (gat m (py (px c)) k))
  | (k, .dy), c => ownM c (halfM dB k 1) (halfOf 1 (gat m (px (py c)) k))

/-- Which of a device's three barrier signals hands over an event's place: the neighbour's, the `x` peer's, the `y` peer's. -/
def grp : Kind → Fin 3
  | .rs _ => 0 | .ag _ => 0 | .x => 1 | .dx => 1 | .y => 2 | .dy => 2
/-- The device that pays duty `d` of `c`'s barrier. -/
def payer : Fin 3 → Dev nD → Dev nD := ![right, px, py]
/-- The places handed to device `c` by its signal number `d`. -/
def barPay (d : Fin 3) (c : Dev nD) : sProp 𝕄 :=
  bigSep (Finset.univ.filter fun e : Ev => grp e.2 = d) fun e => land (F := F) e (tgt e.2 c)

instance anyM_storable (c : Dev nD) {sp : Space} {sh : Shape} {e : EltTy} (b : Memref sig .tc sp sh e) :
    BI.Storable (upEmb : UEmb _ 𝕄) (anyM (F := F) c b) := by unfold anyM; infer_instance
instance land_storable (e : Ev) (c : Dev nD) : BI.Storable (upEmb : UEmb _ 𝕄) (land (F := F) e c) := by
  rcases e with ⟨k, _ | _ | _ | _ | _ | _⟩ <;> (unfold land; infer_instance)
instance pay_storable (e : Ev) (c : Dev nD) : BI.Storable (upEmb : UEmb _ 𝕄) (pay (F := F) m e c) := by
  rcases e with ⟨k, _ | _ | _ | _ | _ | _⟩ <;> (unfold pay ownM; infer_instance)
instance barPay_storable (d : Fin 3) (c : Dev nD) : BI.Storable (upEmb : UEmb _ 𝕄) (barPay (F := F) d c) := by
  unfold barPay; infer_instance

/-! ## The schedule -/

abbrev barCell (c : Dev nD) : GSem nD τ sig := ((c : Thread nD τ), .reg barS)
abbrev cell (c : Dev nD) (e : Ev) : GSem nD τ sig := ((c : Thread nD τ), .dma (semR e))

/-- One round: a barrier has three duties of one unit, a receiving semaphore one duty of its copy's credit. -/
def Rd : Rounds.Schedule (GSem nD τ sig) (Fin 3) 𝕄 where
  duties g r := if r = 0 ∧ g.1.2 = .tc then (if g.2 = .reg barS then Finset.univ else if (evOf g.2).isSome then {0} else ∅) else ∅
  unitless _ := False
  amount g _ _ := match evOf g.2 with
    | some e => amt e.2
    | none => 1
  payload g _ d := match evOf g.2 with
    | some e => pay m e g.1.1
    | none => barPay (F := F) d g.1.1
  amount_pos g _ _ _ := by
    cases h : evOf g.2 with
    | none => exact Nat.one_pos
    | some e => exact amt_pos e.2

instance Rd_payload_storable (g : GSem nD τ sig) (r : ℕ) (d : Fin 3) :
    BI.Storable (upEmb : UEmb _ 𝕄) ((Rd (F := F) m).payload g r d) := by
  show BI.Storable upEmb (match evOf g.2 with
    | some e => pay m e g.1.1
    | none => barPay (F := F) d g.1.1)
  cases evOf g.2 <;> (dsimp only; infer_instance)

section
variable (c : Dev nD) (e : Ev)

theorem duties_bar : (Rd (F := F) m).duties (barCell c) 0 = Finset.univ := by
  dsimp only [Rd]; rw [if_pos ⟨rfl, rfl⟩, if_pos rfl]
theorem duties_cell : (Rd (F := F) m).duties (cell c e) 0 = {0} := by
  dsimp only [Rd]; rw [if_pos ⟨rfl, rfl⟩, if_neg (fun h => by cases h), evOf_semR]; rfl
theorem duties_later (g : GSem nD τ sig) : ∀ r, 1 ≤ r → (Rd (F := F) m).duties g r = ∅ :=
  fun r hr => by dsimp only [Rd]; rw [if_neg fun h => by omega]
theorem amount_bar (d : Fin 3) : (Rd (F := F) m).amount (barCell c) 0 d = 1 := by dsimp only [Rd]; rw [evOf_reg]
theorem amount_cell (d : Fin 3) : (Rd (F := F) m).amount (cell c e) 0 d = amt e.2 := by dsimp only [Rd]; rw [evOf_semR]
theorem expect_bar : (Rd (F := F) m).expect (barCell c) 0 = 3 := by
  unfold Schedule.expect Schedule.amountOf
  rw [duties_bar, Finset.sum_congr rfl fun d _ => amount_bar m c d, Finset.sum_const, Finset.card_univ, Fintype.card_fin, smul_eq_mul]
theorem expect_cell : (Rd (F := F) m).expect (cell c e) 0 = amt e.2 := by
  unfold Schedule.expect Schedule.amountOf; rw [duties_cell, Finset.sum_singleton, amount_cell]
theorem payload_bar (d : Fin 3) : (Rd (F := F) m).payload (barCell c) 0 d = barPay (F := F) d c := by dsimp only [Rd]; rw [evOf_reg]
theorem payload_cell (d : Fin 3) : (Rd (F := F) m).payload (cell c e) 0 d = pay m e c := by dsimp only [Rd]; rw [evOf_semR]
theorem rest_cell : bigSep ((Rd (F := F) m).duties (cell c e) 0 \ ∅) (fun d => (Rd (F := F) m).payload (cell c e) 0 d) = pay m e c := by
  rw [Finset.sdiff_empty, duties_cell, bigSep_singleton, payload_cell]
theorem rest_bar : bigSep ((Rd (F := F) m).duties (barCell c) 0 \ ∅) (fun d => (Rd (F := F) m).payload (barCell c) 0 d)
    = bigSep Finset.univ fun e : Ev => land (F := F) e (tgt e.2 c) := by
  rw [Finset.sdiff_empty, duties_bar, bigSep_congr (fun d _ => payload_bar m c d)]
  unfold barPay
  rw [bigSep_fiberwise Finset.univ (fun e : Ev => grp e.2), show Finset.univ.image (fun e : Ev => grp e.2) = Finset.univ from by decide]
end

/-! ## What a device owes -/

/-- The copies a device still has to send when it has sent the first `n`. -/
def later (n : ℕ) : Finset Ev := Finset.univ.filter fun e => n ≤ ord e
/-- What it owes for them. -/
def owe (c : Dev nD) (n : ℕ) : CellTallies nD τ sig Unit := (later n).sum fun e => tallyAt (cell (tgt e.2 c) e) () (amt e.2)

theorem owe_step (c : Dev nD) (e : Ev) : owe c (ord e) = owe c (ord e + 1) + tallyAt (cell (tgt e.2 c) e) () (amt e.2) := by
  have h : later (ord e) = insert e (later (ord e + 1)) := by
    ext e'; simp only [later, Finset.mem_filter, Finset.mem_univ, true_and, Finset.mem_insert]
    constructor
    · intro h'; rcases Nat.lt_or_ge (ord e) (ord e') with h | h
      · exact .inr h
      · exact .inl (ord_inj (le_antisymm h h'))
    · rintro (rfl | h')
      · exact le_rfl
      · omega
  unfold owe; rw [h, Finset.sum_insert (by simp [later]), add_comm]
theorem owe_end (c : Dev nD) : owe c 40 = 0 := by
  have : later 40 = ∅ := Finset.filter_eq_empty_iff.mpr fun e _ => by have := ord_lt e; omega
  unfold owe; rw [this, Finset.sum_empty]

/-- At launch: a unit to each of the three barriers it signals beside all its copies; the last summand is the first paid. -/
def O₀ (c : Dev nD) : CellTallies nD τ sig Unit :=
  owe c 0 + tallyAt (barCell (py c)) () 1 + tallyAt (barCell (px c)) () 1 + tallyAt (barCell (left c)) () 1

def L (g : GSem nD τ sig) : Finset Unit := if g.1.2 = .tc then {()} else ∅
/-- A barrier at 1, a receiving semaphore above it by its place in the order, everything else at 0. -/
def lv (g : GSem nD τ sig) (_ : Unit) : ℕ := if g.2 = .reg barS then 1 else match evOf g.2 with
  | some e => ord e + 2
  | none => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := if_pos rfl
theorem lv_cell (c : Dev nD) (e : Ev) : lv (cell c e) () = ord e + 2 := by
  unfold lv; rw [if_neg (fun h => by cases h)]; dsimp only; rw [evOf_semR]
theorem lv_semL (c : Dev nD) (l : LSem) : lv ((c : Thread nD τ), .dma (semL l)) () = 0 := by
  unfold lv; rw [if_neg (fun h => by cases h)]; dsimp only; rw [evOf_semL]

theorem owe_pos {c : Dev nD} {n : ℕ} {g : GSem nD τ sig} {u : Unit} (h : 0 < owe c n g u) : ∃ e, n ≤ ord e ∧ g = cell (tgt e.2 c) e := by
  unfold owe at h
  rw [Finset.sum_apply, Finsupp.finset_sum_apply] at h
  obtain ⟨e, he, hp⟩ := Finset.exists_ne_zero_of_sum_ne_zero (Nat.pos_iff_ne_zero.mp h)
  refine ⟨e, (Finset.mem_filter.mp he).2, ?_⟩
  rw [tallyAt_apply] at hp
  by_contra hn
  exact hp (if_neg fun h' => hn h'.1)

/-- A device may wait on a semaphore whose level is below every copy it still owes. -/
theorem mayWait_of (c : Dev nD) (sm : SemLoc sig) (n : ℕ) (h : lv ((c : Thread nD τ), sm) () < n + 2) :
    (levAts L lv : sProp 𝕄) ⊢ MayWait (c : Thread nD τ) sm () (owe c n) :=
  MayOwe.of_cut (L := L) (lev := lv) (n + 1) (fun p hp => by rw [Finset.mem_singleton.mp hp, L_tc]; exact Finset.mem_singleton_self _)
    (fun g u hg => by obtain ⟨e, -, rfl⟩ := owe_pos hg; rw [L_tc]; exact Finset.mem_singleton_self _)
    (fun p hp => by rw [Finset.mem_singleton.mp hp]; exact Nat.lt_succ_iff.mp h)
    (fun g u hg => by obtain ⟨e, he, rfl⟩ := owe_pos hg; rw [lv_cell]; omega)

end Cert.KernelIdeal.Proof

end
-- ==== Proof.KI.Rules.lean ====
module

public import proofs.«01_k».proof.Proof.KI.Sched

/-! One rule for each kind of step on semaphores: a copy to another device, the wait for a copy's sending end, the wait
    for a copy to arrive, the start of a local copy and its wait. A device's state is what it holds; each rule says what
    the step takes and what it gives back, for any continuation. -/

@[expose] public section

noncomputable section

namespace Cert.KernelIdeal.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- A program's weakest precondition on device `c`. -/
abbrev W (c : Dev nD) {α : Type} (p : KProg F α) (Q : α → sProp 𝕄) : sProp 𝕄 :=
  wp frame (wpE (defs₀ (F := F)) 𝒱₀ (c : Thread nD τ) none) Set.univ p Q

/-- The counters of the local flights. -/
abbrev EC : UEmb Counters 𝕄 := countersEmb

/-! ## The shared facts -/

abbrev kcell (p : Dev nD × Option Ev) : GSem nD τ sig := match p.2 with
  | none => barCell p.1
  | some e => cell p.1 e

/-- Every semaphore of the schedule under its invariant, each at its first round, and the levels. -/
def ctx (K : Dev nD × Option Ev → ℕ) : sProp 𝕄 :=
  iprop((bigSep Finset.univ fun p : Dev nD × Option Ev => cellInv ER (Rd m) (K p) (kcell p))
    ∗ (bigSep Finset.univ fun p : Dev nD × Option Ev => (reached ER (kcell p) 0 : sProp 𝕄)) ∗ levAts L lv)

instance ctx_persistent (K : Dev nD × Option Ev → ℕ) : BI.Persistent (ctx m K) := by unfold ctx; infer_instance

theorem ctx_inv' (K : Dev nD × Option Ev → ℕ) (p : Dev nD × Option Ev) :
    (bigSep Finset.univ fun p : Dev nD × Option Ev => (cellInv ER (Rd m) (K p) (kcell p) : sProp 𝕄)) ⊢ cellInv ER (Rd m) (K p) (kcell p) :=
  bigSep_elim (Finset.mem_univ p)
theorem ctx_reached' (p : Dev nD × Option Ev) :
    (bigSep Finset.univ fun p : Dev nD × Option Ev => (reached ER (kcell p) 0 : sProp 𝕄)) ⊢ reached ER (kcell p) 0 :=
  bigSep_elim (Finset.mem_univ p)
theorem ctx_inv (K : Dev nD × Option Ev → ℕ) (p : Dev nD × Option Ev) : ctx m K ⊢ cellInv ER (Rd m) (K p) (kcell p) := by
  unfold ctx; iintro ⟨H, -, -⟩; iapply (ctx_inv' m K p) $$ H
theorem ctx_reached (K : Dev nD × Option Ev → ℕ) (p : Dev nD × Option Ev) : ctx m K ⊢ reached ER (kcell p) 0 := by
  unfold ctx; iintro ⟨-, H, -⟩; iapply (ctx_reached' p) $$ H
theorem ctx_lev (K : Dev nD × Option Ev → ℕ) : ctx m K ⊢ levAts L lv := by
  unfold ctx; iintro ⟨-, -, H⟩; iexact H

set_option maxRecDepth 20000 in
theorem ctx_semL (K : Dev nD × Option Ev → ℕ) (c : Dev nD) (l : LSem) (n : ℕ) : ctx m K ⊢ MayWait (c : Thread nD τ) (.dma (semL l)) () (owe c n) :=
  (ctx_lev m K).trans (mayWait_of c (.dma (semL l)) n (lt_of_eq_of_lt (lv_semL c l) (Nat.succ_pos _)))
set_option maxRecDepth 20000 in
theorem ctx_cell (K : Dev nD × Option Ev → ℕ) (c : Dev nD) (e : Ev) (n : ℕ) (hn : ord e < n) : ctx m K ⊢ MayWait (c : Thread nD τ) (.dma (semR e)) () (owe c n) :=
  (ctx_lev m K).trans (mayWait_of c (.dma (semR e)) n (lt_of_eq_of_lt (lv_cell c e) (Nat.add_lt_add_right hn 2)))

/-! ## What a device holds for an event it sends, and for one it receives -/

/-- The right to send event `e`, with the place it lands at. -/
def snd (c : Dev nD) (e : Ev) : sProp 𝕄 := iprop(dutyTok ER (cell (tgt e.2 c) e) 0 0 ∗ land (F := F) e (tgt e.2 c))
/-- The right to receive event `e`. -/
def rcv (c : Dev nD) (e : Ev) : sProp 𝕄 := iprop(atPos ER (cell c e) 0 ∅ 0 ∗ cred (tallyAt (cell c e) () (amt e.2)))
/-- The device has sent its first `n` copies. -/
def owesE (c : Dev nD) (n : ℕ) : sProp 𝕄 := iprop(∃ V, owes (c : Thread nD τ) (owe c n) V)
/-- A DMA semaphore of the device at zero. -/
def zero (c : Dev nD) (s : DmaSem sig) : sProp 𝕄 := semVal ((c : Thread nD τ), .dma s) 0

variable {α : Type}

/-- Sending event `e`: the source goes with the flight, the place it lands at is handed over filled. -/
theorem sendF (K : Dev nD × Option Ev → ℕ) (c : Dev nD) (e : Ev) {sp sp' : Space} {sh : Shape} {et : EltTy}
    {src : Memref sig .tc sp sh et} {dst : Memref sig .tc sp' sh et} {ss rs : DmaSem sig} {dev : Dev nD} (hdev : dev = tgt e.2 c)
    (hrs : rs = semR e)
    {hsc : dst.view.ref.isScScratch = false} {hsrc : src.view.WordExact} {hdst : dst.view.WordExact}
    {hsem : DmaTarget.Typed sp (.dma rs) (.remote (Dev.tc dev : Thread nD τ) dst (.dma ss) hsc)}
    (q : PosShare TreeShare) (fs : Buf (Elt F) (src.view.loc (c : Thread nD τ)))
    (hland : land (F := F) e (tgt e.2 c) ⊢ anyM (tgt e.2 c) dst)
    (hpay : ownM (tgt e.2 c) dst (src.view.read (Elt F) fs) ⊢ pay m e (tgt e.2 c))
    (hamt : dst.view.dmaCredit = amt e.2)
    (k : PUnit → KProg F α) (Q : α → sProp 𝕄) :
    iprop(ctx m K ∗ (src.view.loc (c : Thread nD τ) ↦[src.view.set]{q} fs) ∗ zero c ss ∗ snd c e ∗ owesE c (ord e))
      ⊢ iprop(((Flight EC (c : Thread nD τ) (.dma ss) () (amt e.2) (src.view.loc (c : Thread nD τ) ↦[src.view.set]{q} fs)
            ∗ owesE c (ord e + 1)) -∗ W c (k ⟨⟩) Q)
          -∗ W c (.op (.enqueueDma src (.remote (Dev.tc dev : Thread nD τ) dst (.dma ss) hsc) (.dma rs) hsrc hdst hsem) k) Q) := by
  subst hdev hrs
  unfold snd owesE zero
  iintro ⟨#Hc, Hs, Hz, ⟨Htok, Hl⟩, ⟨%V, HO⟩⟩ Hk
  ihave Hl := hland $$ Hl
  unfold anyM owns
  icases Hl with ⟨%X, %fd, -, Hd⟩
  imod (Transfers.flight_alloc EC (g := ((c : Thread nD τ), .dma ss)) (amt_pos e.2) iprop(src.view.loc (c : Thread nD τ) ↦[src.view.set]{q} fs)) $$ Hz with ⟨%γ, %δ, %κ, #Hinv, Hγ, Hδ⟩
  iapply (wp_enqueueDma_remote_pointsTo 𝒱₀ (c : Thread nD τ) none Set.univ (c' := (tgt e.2 c : Thread nD τ)) () () (owe c (ord e + 1)) (amt e.2) (show dst.view.amount (.dma (semR e)) = amt e.2 from hamt) (owe_step c e)) $$ [Hs Hd HO] [Hγ] [Htok]
  · isplitl [Hs]; · iexact Hs
    isplitl [Hd]; · iexact Hd
    iexact HO
  · iapply (Transfers.flight_creditUpdate EC (δ := δ))
    isplitr; · iexact Hinv
    iexact Hγ
  · rw [← amount_cell m (tgt e.2 c) e 0]
    iapply (Rounds.land_credit ER (Rd m) (κ := K (tgt e.2 c, some e)) (by rw [duties_cell]; exact Finset.mem_singleton_self _)
      (by
        rw [payload_cell]
        refine BIBase.Entails.trans (owns_intro (tgt e.2 c : Thread nD τ) dst fullShare _) ?_
        rw [View.read_write_univ]; exact hpay))
    isplitr; · iapply (ctx_inv m K (tgt e.2 c, some e)) $$ Hc
    isplitl [Htok]; · iexact Htok
    iapply (ctx_reached m K (tgt e.2 c, some e)) $$ Hc
  iintro ⟨Hcr, HO⟩
  iapply Hk
  isplitl [Hδ Hcr]
  · iapply (Transfers.flight_intro EC (c : Thread nD τ) (κ := κ))
    isplitr; · iexact Hinv
    isplitl [Hδ] <;> iassumption
  iexists V; iexact HO

/-- The wait for a flight this device started. -/
theorem waitF (K : Dev nD × Option Ev → ℕ) (c : Dev nD) (l : LSem) {ss : DmaSem sig} (hss : ss = semL l) {sp sp' : Space} {sh sh' : Shape} {et et' : EltTy}
    {srcw : Memref sig .tc sp' sh' et'} {dstw : Memref sig .tc sp sh et} {hsrc : srcw.view.WordExact} {hdst : dstw.view.WordExact}
    {N : ℕ} (hN : dstw.view.dmaCredit = N) (n : ℕ) (D : sProp 𝕄) (k : PUnit → KProg F α) (Q : α → sProp 𝕄) :
    iprop(ctx m K ∗ Flight EC (c : Thread nD τ) (.dma ss) () N D ∗ owesE c n)
      ⊢ iprop(((D ∗ zero c ss ∗ owesE c n) -∗ W c (k ⟨⟩) Q)
          -∗ W c (.op (.waitDma2 ss srcw dstw hsrc hdst) k) Q) := by
  subst hss
  unfold owesE zero
  iintro ⟨#Hc, HF, ⟨%V, HO⟩⟩ Hk
  iapply (Transfers.wp_waitLocalO EC 𝒱₀ (c : Thread nD τ) none () hN) $$ [HF HO]
  · isplitl [HF]; · iexact HF
    isplitl [HO]; · iexact HO
    iapply (ctx_semL m K c l n) $$ Hc
  iintro ⟨HD, Hz, HO⟩
  iapply Hk
  isplitl [HD]; · iexact HD
  isplitl [Hz]; · iexact Hz
  iexists _; iexact HO

/-- The wait for event `e` to arrive: what it carries, and its semaphore at zero for good. -/
theorem waitR (K : Dev nD × Option Ev → ℕ) (c : Dev nD) (e : Ev) {rs : DmaSem sig} (hrs : rs = semR e) {sp sp' : Space} {sh sh' : Shape} {et et' : EltTy}
    {srcw : Memref sig .tc sp' sh' et'} {dstw : Memref sig .tc sp sh et} {hsrc : srcw.view.WordExact} {hdst : dstw.view.WordExact}
    (hN : dstw.view.dmaCredit = amt e.2) (n : ℕ) (hn : ord e < n) (k : PUnit → KProg F α) (Q : α → sProp 𝕄) :
    iprop(ctx m K ∗ rcv c e ∗ owesE c n)
      ⊢ iprop(((pay m e c ∗ zero c (semR e) ∗ owesE c n) -∗ W c (k ⟨⟩) Q)
          -∗ W c (.op (.waitDma2 rs srcw dstw hsrc hdst) k) Q) := by
  subst hrs
  unfold owesE zero rcv
  iintro ⟨#Hc, ⟨Hat, Hcr⟩, ⟨%V, HO⟩⟩ Hk
  iapply (Rounds.wp_wait_rest_token 𝒱₀ ER (Rd m) (c : Thread nD τ) none (κ := K (c, some e))
      (wpE_waitDma2_eq 𝒱₀ (c : Thread nD τ) none Set.univ) (Set.mem_univ _) () (O := owe c n) (W := V) (R := 0) (m := 0) (T := ∅)
      (by rw [Nat.zero_add, expect_cell, hN])) $$ [Hat Hcr HO]
  · isplitr; · iapply (ctx_inv m K (c, some e)) $$ Hc
    isplitl [Hcr]; · rw [hN]; iexact Hcr
    isplitl [HO]; · iexact HO
    isplitr; · iapply (ctx_cell m K c e n hn) $$ Hc
    iexact Hat
  iintro ⟨HO, Hat, -, Hpay⟩
  ihave Hp := (Entails.of_eq (rest_cell m c e)) $$ Hpay
  imod (Rounds.cell_close ER (Rd m) (Set.mem_univ (K (c, some e))) (fun h => h) (R := 0 + 1) (duties_later m (cell c e))) $$ [Hat] with Hz
  · isplitr; · iapply (ctx_inv m K (c, some e)) $$ Hc
    iexact Hat
  iapply Hk
  isplitl [Hp]; · iexact Hp
  isplitl [Hz]; · iexact Hz
  iexists _; iexact HO

end Cert.KernelIdeal.Proof

end
-- ==== Proof.KI.Mem.lean ====
module

public import proofs.«01_k».proof.Proof.KI.Rules
public import Idealize.ShloMosaic.Lib.Ring

/-! Where the buffers' parts lie, and the loads and stores. A buffer held whole is its slots, chunks, halves or row blocks
    held apart; a load of a block reads it, a store of a block replaces it and leaves the rest. -/

@[expose] public section

noncomputable section

namespace Cert.KernelIdeal.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable {α : Type}

/-! ## Indices -/

/-- An index of a chunk with a leading unit axis. -/
theorem squeeze_idx {n d : ℕ} (h : (⟨2, ![n, d]⟩ : Shape).numel = (⟨3, ![1, n, d]⟩ : Shape).numel) (i : (⟨2, ![n, d]⟩ : Shape).Idx) (a : Fin 3) :
    ((Shape.reshapeEquiv h i) a).val = (match a with | ⟨0, _⟩ => 0 | ⟨1, _⟩ => (i 0).val | ⟨2, _⟩ => (i 1).val : ℕ) := by
  have := Shape.reshapeEquiv_cons_one (d := ![n, d]) h i
  rw [this]
  fin_cases a <;> rfl

theorem chunk_half (k : Fin 4) (h : Fin 2) (i : S512x1024.Idx) (h₁ : S512x1024.numel = S1x512x1024.numel) (h₂ : S1024x1024.numel = S1x1024x1024.numel) :
    (halfR k h).emb (Shape.reshapeEquiv h₁ i) = (chunkR k).emb (Shape.reshapeEquiv h₂ (halfE h i)) := by
  funext a
  refine Fin.ext ?_
  rw [Rect.emb_apply, Rect.emb_apply]
  have e1 := squeeze_idx (n := 512) (d := 1024) h₁ i a
  have e2 := squeeze_idx (n := 1024) (d := 1024) h₂ (halfE h i) a
  show _ + 1 * ((Shape.reshapeEquiv h₁ i) a).val = _ + 1 * ((Shape.reshapeEquiv h₂ (halfE h i)) a).val
  rw [e1, e2]
  fin_cases a
  · rfl
  · show 512 * h.val + 1 * (i 0).val = 0 + 1 * (512 * h.val + (i 0).val); omega
  · rfl

theorem chunk_gblk (k q : Fin 4) (i : S256x1024.Idx) (h₁ : S256x1024.numel = S1x256x1024.numel) (h₂ : S1024x1024.numel = S1x1024x1024.numel) :
    (gblkR k q).emb (Shape.reshapeEquiv h₁ i) = (chunkR k).emb (Shape.reshapeEquiv h₂ ((xblkR q).emb i)) := by
  funext a
  refine Fin.ext ?_
  rw [Rect.emb_apply, Rect.emb_apply]
  have e1 := squeeze_idx (n := 256) (d := 1024) h₁ i a
  have e2 := squeeze_idx (n := 1024) (d := 1024) h₂ ((xblkR q).emb i) a
  show _ + 1 * ((Shape.reshapeEquiv h₁ i) a).val = _ + 1 * ((Shape.reshapeEquiv h₂ ((xblkR q).emb i)) a).val
  rw [e1, e2]
  fin_cases a
  · rfl
  · show 256 * q.val + 1 * (i 0).val = 0 + 1 * (256 * q.val + 1 * (i 0).val); omega
  · show 0 + 1 * (i 1).val = 0 + 1 * (0 + 1 * (i 1).val); omega

/-- Every row of a chunk is a row of its block. -/
theorem xblk_rowIn (i : S1024x1024.Idx) : (xblkR (blkOf i)).emb (rowIn i) = i := by
  funext a
  refine Fin.ext ?_
  rw [Rect.emb_apply]
  fin_cases a
  · show 256 * ((i 0).val / 256) + 1 * ((i 0).val % 256) = (i 0).val; omega
  · show 0 + 1 * (i 1).val = (i 1).val; omega
theorem blkOf_xblk (q : Fin 4) (j : S256x1024.Idx) : blkOf ((xblkR q).emb j) = q := by
  refine Fin.ext ?_
  have h : (j 0).val < 256 := (j 0).isLt
  show (256 * q.val + 1 * (j 0).val) / 256 = q.val; omega
theorem rowIn_xblk (q : Fin 4) (j : S256x1024.Idx) : rowIn ((xblkR q).emb j) = j := by
  funext a
  refine Fin.ext ?_
  fin_cases a
  · have h : (j 0).val < 256 := (j 0).isLt
    show (256 * q.val + 1 * (j 0).val) % 256 = (j 0).val; omega
  · show 0 + 1 * (j 1).val = (j 1).val; omega

/-- A half's index from the chunk's. -/
def halfBack (i : S1024x1024.Idx) : S512x1024.Idx := fun a => match a with
  | ⟨0, _⟩ => ⟨(i 0).val % 512, Nat.mod_lt _ (by decide)⟩
  | ⟨1, _⟩ => ⟨(i 1).val, (i 1).isLt⟩
def halfNo (i : S1024x1024.Idx) : Fin 2 := ⟨(i 0).val / 512, by have : (i 0).val < 1024 := (i 0).isLt; omega⟩
theorem halfE_back (i : S1024x1024.Idx) : halfE (halfNo i) (halfBack i) = i := by
  funext a
  refine Fin.ext ?_
  fin_cases a
  · show 512 * ((i 0).val / 512) + (i 0).val % 512 = (i 0).val; omega
  · rfl
theorem halfNo_E (h : Fin 2) (i : S512x1024.Idx) : halfNo (halfE h i) = h := by
  refine Fin.ext ?_
  have : (i 0).val < 512 := (i 0).isLt
  show (512 * h.val + (i 0).val) / 512 = h.val; omega

/-- The shape casts undo each other. -/
theorem ofSlot_toSlot (X : FVec F S256x1024 .bf16) : ofSlot (toSlot X) = X := by
  funext j
  show X (Shape.reshapeEquiv _ (Shape.reshapeEquiv _ j)) = X j
  rw [Shape.reshapeEquiv_reshapeEquiv]
  congr 1; exact Shape.reshapeEquiv_self _ _

/-! ## Ownership of a part, re-indexed -/

section
variable (c : Dev nD)

/-- A reshaped memref is the memref, its contents re-indexed. -/
theorem owns_squeeze {sp : Space} {sh sh' : Shape} {e : EltTy} (b : Memref sig .tc sp sh e) (h : sh.Squeezes sh') (q : PosShare TreeShare) (X : sh.Idx → Elt F e) :
    (owns (c : Thread nD τ) b q X : sProp 𝕄) ⊢ owns (c : Thread nD τ) (b.squeeze sh' h) q (fun i => X (Shape.reshapeEquiv h.numel_eq i)) := by
  unfold owns
  iintro ⟨%f, %hf, H⟩
  iexists f
  isplitr
  · ipureintro; rw [← hf]; rfl
  · rw [Memref.set_view_squeeze]; iexact H
theorem owns_unsqueeze {sp : Space} {sh sh' : Shape} {e : EltTy} (b : Memref sig .tc sp sh e) (h : sh.Squeezes sh') (q : PosShare TreeShare) (X : sh'.Idx → Elt F e) :
    (owns (c : Thread nD τ) (b.squeeze sh' h) q X : sProp 𝕄) ⊢ owns (c : Thread nD τ) b q (fun i => X (Shape.reshapeEquiv h.numel_eq.symm i)) := by
  unfold owns
  iintro ⟨%f, %hf, H⟩
  iexists f
  isplitr
  · ipureintro; rw [← hf]; funext i
    show _ = b.view.read _ f (Shape.reshapeEquiv _ (Shape.reshapeEquiv _ i))
    rw [Shape.reshapeEquiv_reshapeEquiv, Shape.reshapeEquiv_self]
  · rw [Memref.set_view_squeeze]; iexact H

/-- The share of a memref halved, -/
theorem owns_halve {sp : Space} {sh : Shape} {e : EltTy} (b : Memref sig .tc sp sh e) (X : sh.Idx → Elt F e) :
    (owns (c : Thread nD τ) b fullShare X : sProp 𝕄) ⊢ iprop(owns (c : Thread nD τ) b fullShare.left X ∗ owns (c : Thread nD τ) b fullShare.right X) := by
  unfold owns
  iintro ⟨%f, %hf, H⟩
  ihave H := ((pointsTo_share (PosShare.mem_left_op_right fullShare)).1) $$ H
  icases H with ⟨H1, H2⟩
  isplitl [H1]
  · iexists f; isplitr; · ipureintro; exact hf
    iexact H1
  · iexists f; isplitr; · ipureintro; exact hf
    iexact H2
/-- and joined again. -/
theorem owns_unhalve {sp : Space} {sh : Shape} {e : EltTy} (b : Memref sig .tc sp sh e) (X : sh.Idx → Elt F e) :
    iprop(owns (c : Thread nD τ) b fullShare.left X ∗ owns (c : Thread nD τ) b fullShare.right X) ⊢ (owns (c : Thread nD τ) b fullShare X : sProp 𝕄) := by
  unfold owns
  iintro ⟨⟨%f, %hf, H1⟩, ⟨%g, %hg, H2⟩⟩
  have hfg : ∀ i ∈ b.view.set, g i = f i := by
    intro i hi
    rw [View.set, Finset.mem_map] at hi
    obtain ⟨x, -, rfl⟩ := hi
    have := congrFun (hg.trans hf.symm) x
    rw [View.read_apply, View.read_apply] at this
    exact eq_of_heq (by simpa using heq_of_eq this)
  ihave H2 := (Entails.of_eq (pointsTo_congr (f := g) (g := f) hfg)) $$ H2
  iexists f
  isplitr; · ipureintro; exact hf
  iapply ((pointsTo_share (PosShare.mem_left_op_right fullShare)).2) $$ [H1 H2]
  isplitl [H1] <;> iassumption

theorem own_any {sp : Space} {sh : Shape} {e : EltTy} (b : Memref sig .tc sp sh e) (X : sh.Idx → Elt F e) :
    ownM c b X ⊢ anyM (F := F) c b := by unfold anyM; iintro H; iexists X; iexact H

/-- A memref held at any contents is the slices of a covering family, each at any contents, -/
theorem any_split {T : Type} [Fintype T] [DecidableEq T] {sp : Space} {sh : Shape} {e : EltTy} (b : Memref sig .tc sp sh e)
    (r : T → Rect sh) (hr : ∀ t a, (r t).stride a = 1) (hd : ∀ t t', t ≠ t' → Disjoint (r t).set (r t').set) (hcov : Finset.univ.biUnion (fun t => (r t).set) = Finset.univ) :
    anyM (F := F) c b ⊢ bigSep Finset.univ fun t => anyM (F := F) c (b.slice (r t) (hr t)) := by
  have h (X : sh.Idx → Elt F e) : ownM c b X ⊢ bigSep Finset.univ fun t => anyM (F := F) c (b.slice (r t) (hr t)) :=
    BIBase.Entails.trans (owns_rects (c : Thread nD τ) b fullShare r hr hd hcov X) (bigSep_mono fun t _ => own_any c (b.slice (r t) (hr t)) _)
  exact exists_elim h

/-- and back. -/
theorem any_join {T : Type} [Fintype T] [DecidableEq T] {sp : Space} {sh : Shape} {e : EltTy} (b : Memref sig .tc sp sh e)
    (r : T → Rect sh) (hr : ∀ t a, (r t).stride a = 1) (hd : ∀ t t', t ≠ t' → Disjoint (r t).set (r t').set) (hcov : Finset.univ.biUnion (fun t => (r t).set) = Finset.univ) :
    bigSep Finset.univ (fun t => anyM (F := F) c (b.slice (r t) (hr t))) ⊢ anyM (F := F) c b := by
  classical
  unfold anyM
  refine BIBase.Entails.trans (bigSep_exists_pi Finset.univ (fun t (X : (r t).shape.Idx → Elt F e) => (owns (c : Thread nD τ) (b.slice (r t) (hr t)) fullShare X : sProp 𝕄))) ?_
  iintro ⟨%Xs, H⟩
  have hc : ∀ i, ∃ t, ∃ j, (r t).emb j = i := fun i => by
    obtain ⟨t, -, h⟩ := Finset.mem_biUnion.mp (hcov.symm ▸ Finset.mem_univ i)
    rw [← Rect.map_emb_univ, Finset.mem_map] at h
    obtain ⟨j, -, h⟩ := h
    exact ⟨t, j, h⟩
  choose tt jj hj using hc
  have hX : ∀ t j, (fun i => Xs (tt i) (jj i)) ((r t).emb j) = Xs t j := by
    intro t j
    have e1 := hj ((r t).emb j)
    have e2 : tt ((r t).emb j) = t := by
      by_contra hne
      have h1 : (r t).emb j ∈ (r (tt ((r t).emb j))).set := by
        rw [← Rect.map_emb_univ, Finset.mem_map]; exact ⟨_, Finset.mem_univ _, e1⟩
      have h2 : (r t).emb j ∈ (r t).set := by
        rw [← Rect.map_emb_univ]; exact Finset.mem_map_of_mem _ (Finset.mem_univ _)
      exact Finset.disjoint_left.mp (hd _ _ hne) h1 h2
    have key : ∀ t' (j' : (r t').shape.Idx), (r t').emb j' = (r t).emb j → t' = t → Xs t' j' = Xs t j := by
      intro t' j' h ht
      subst ht
      rw [(r t').emb.injective h]
    exact key _ _ e1 e2
  have hbs : bigSep Finset.univ (fun t => (owns (c : Thread nD τ) (b.slice (r t) (hr t)) fullShare (Xs t) : sProp 𝕄))
      = bigSep Finset.univ (fun t => (owns (c : Thread nD τ) (b.slice (r t) (hr t)) fullShare (fun j => (fun i => Xs (tt i) (jj i)) ((r t).emb j)) : sProp 𝕄)) :=
    bigSep_congr fun t _ => by rw [show (fun j => (fun i => Xs (tt i) (jj i)) ((r t).emb j)) = Xs t from funext (hX t)]
  iexists (fun i => Xs (tt i) (jj i))
  iapply (BIBase.Entails.trans (Entails.of_eq hbs) (owns_of_rects (c : Thread nD τ) b fullShare r hr hd hcov (fun i => Xs (tt i) (jj i)))) $$ H

theorem any_squeeze {sp : Space} {sh sh' : Shape} {e : EltTy} (b : Memref sig .tc sp sh e) (h : sh.Squeezes sh') :
    anyM (F := F) c b ⊢ anyM (F := F) c (b.squeeze sh' h) := by
  unfold anyM; iintro ⟨%X, H⟩; iexists _; iapply (owns_squeeze c b h) $$ H
theorem any_unsqueeze {sp : Space} {sh sh' : Shape} {e : EltTy} (b : Memref sig .tc sp sh e) (h : sh.Squeezes sh') :
    anyM (F := F) c (b.squeeze sh' h) ⊢ anyM (F := F) c b := by
  unfold anyM; iintro ⟨%X, H⟩; iexists _; iapply (owns_unsqueeze c b h) $$ H

end

/-! ## The families of rectangles -/

theorem slotR_disj (p p' : Fin 4 × Fin 4) (h : p ≠ p') : Disjoint (slotR p.1 p.2).set (slotR p'.1 p'.2).set := by
  by_cases h0 : p.1 = p'.1
  · have h1 : p.2 ≠ p'.2 := fun h1 => h (Prod.ext h0 h1)
    have h2 : p.2.val ≠ p'.2.val := fun h2 => h1 (Fin.ext h2)
    refine Rect.unit_disjoint (1 : Fin 4) ?_
    show p.2.val + 1 ≤ p'.2.val ∨ p'.2.val + 1 ≤ p.2.val
    omega
  · have h2 : p.1.val ≠ p'.1.val := fun h2 => h0 (Fin.ext h2)
    refine Rect.unit_disjoint (0 : Fin 4) ?_
    show p.1.val + 1 ≤ p'.1.val ∨ p'.1.val + 1 ≤ p.1.val
    omega
theorem slotR_cover : Finset.univ.biUnion (fun p : Fin 4 × Fin 4 => (slotR p.1 p.2).set) = Finset.univ := by
  refine Finset.eq_univ_of_forall fun i => Finset.mem_biUnion.mpr ⟨(⟨(i 0).val, (i 0).isLt⟩, ⟨(i 1).val, (i 1).isLt⟩), Finset.mem_univ _, Rect.mem_set_unit.mpr fun a => ?_⟩
  have h2 : (i 2).val < 256 := (i 2).isLt
  have h3 : (i 3).val < 1024 := (i 3).isLt
  fin_cases a
  · exact ⟨le_rfl, Nat.lt_succ_self _⟩
  · exact ⟨le_rfl, Nat.lt_succ_self _⟩
  · show 0 ≤ (i 2).val ∧ (i 2).val < 0 + 256; omega
  · show 0 ≤ (i 3).val ∧ (i 3).val < 0 + 1024; omega
theorem chunkR_disj (k k' : Fin 4) (h : k ≠ k') : Disjoint (chunkR k).set (chunkR k').set := by
  have h2 : k.val ≠ k'.val := fun h2 => h (Fin.ext h2)
  refine Rect.unit_disjoint (0 : Fin 3) ?_
  show k.val + 1 ≤ k'.val ∨ k'.val + 1 ≤ k.val
  omega
theorem chunkR_cover : Finset.univ.biUnion (fun k : Fin 4 => (chunkR k).set) = Finset.univ := by
  refine Finset.eq_univ_of_forall fun i => Finset.mem_biUnion.mpr ⟨⟨(i 0).val, (i 0).isLt⟩, Finset.mem_univ _, Rect.mem_set_unit.mpr fun a => ?_⟩
  have h2 : (i 1).val < 1024 := (i 1).isLt
  have h3 : (i 2).val < 1024 := (i 2).isLt
  fin_cases a
  · exact ⟨le_rfl, Nat.lt_succ_self _⟩
  · show 0 ≤ (i 1).val ∧ (i 1).val < 0 + 1024; omega
  · show 0 ≤ (i 2).val ∧ (i 2).val < 0 + 1024; omega
theorem xvR_disj (k k' : Fin 2) (h : k ≠ k') : Disjoint (xvR k).set (xvR k').set := by
  have h2 : k.val ≠ k'.val := fun h2 => h (Fin.ext h2)
  refine Rect.unit_disjoint (0 : Fin 3) ?_
  show k.val + 1 ≤ k'.val ∨ k'.val + 1 ≤ k.val
  omega
theorem xvR_cover : Finset.univ.biUnion (fun k : Fin 2 => (xvR k).set) = Finset.univ := by
  refine Finset.eq_univ_of_forall fun i => Finset.mem_biUnion.mpr ⟨⟨(i 0).val, (i 0).isLt⟩, Finset.mem_univ _, Rect.mem_set_unit.mpr fun a => ?_⟩
  have h2 : (i 1).val < 1024 := (i 1).isLt
  have h3 : (i 2).val < 1024 := (i 2).isLt
  fin_cases a
  · exact ⟨le_rfl, Nat.lt_succ_self _⟩
  · show 0 ≤ (i 1).val ∧ (i 1).val < 0 + 1024; omega
  · show 0 ≤ (i 2).val ∧ (i 2).val < 0 + 1024; omega
theorem rowR_disj (k k' : Fin 16) (h : k ≠ k') : Disjoint (rowR k).set (rowR k').set := by
  have h2 : k.val ≠ k'.val := fun h2 => h (Fin.ext h2)
  refine Rect.unit_disjoint (0 : Fin 2) ?_
  show 1024 * k.val + 1024 ≤ 1024 * k'.val ∨ 1024 * k'.val + 1024 ≤ 1024 * k.val
  omega
theorem rowR_cover : Finset.univ.biUnion (fun k : Fin 16 => (rowR k).set) = Finset.univ := by
  refine Finset.eq_univ_of_forall fun i => Finset.mem_biUnion.mpr
    ⟨⟨(i 0).val / 1024, by have : (i 0).val < 16384 := (i 0).isLt; omega⟩, Finset.mem_univ _, Rect.mem_set_unit.mpr fun a => ?_⟩
  have h3 : (i 1).val < 1024 := (i 1).isLt
  fin_cases a
  · show 1024 * ((i 0).val / 1024) ≤ (i 0).val ∧ (i 0).val < 1024 * ((i 0).val / 1024) + 1024; omega
  · show 0 ≤ (i 1).val ∧ (i 1).val < 0 + 1024; omega

section
variable (c : Dev nD)

/-- A ring buffer is its slots, a chunk buffer its chunks, the staging buffer its two slots. -/
theorem slots_split (b : Memref sig .tc .vmem S4x4x256x1024 .bf16) : anyM (F := F) c b ⊢ bigSep Finset.univ fun p : Fin 4 × Fin 4 => anyM (F := F) c (slotM b p.1 p.2) :=
  BIBase.Entails.trans (any_split c b (fun p : Fin 4 × Fin 4 => slotR p.1 p.2) (fun _ _ => rfl) slotR_disj slotR_cover) (bigSep_mono fun p _ => any_squeeze c _ _)
theorem slots_join (b : Memref sig .tc .vmem S4x4x256x1024 .bf16) : (bigSep Finset.univ fun p : Fin 4 × Fin 4 => anyM (F := F) c (slotM b p.1 p.2)) ⊢ anyM (F := F) c b :=
  BIBase.Entails.trans (bigSep_mono fun p _ => any_unsqueeze c _ _) (any_join c b (fun p : Fin 4 × Fin 4 => slotR p.1 p.2) (fun _ _ => rfl) slotR_disj slotR_cover)
theorem chunks_split (b : Memref sig .tc .vmem S4x1024x1024 .bf16) : anyM (F := F) c b ⊢ bigSep Finset.univ fun k => anyM (F := F) c (chunkM b k) :=
  BIBase.Entails.trans (any_split c b chunkR (fun _ _ => rfl) chunkR_disj chunkR_cover) (bigSep_mono fun p _ => any_squeeze c _ _)
theorem chunks_join (b : Memref sig .tc .vmem S4x1024x1024 .bf16) : (bigSep Finset.univ fun k => anyM (F := F) c (chunkM b k)) ⊢ anyM (F := F) c b :=
  BIBase.Entails.trans (bigSep_mono fun p _ => any_unsqueeze c _ _) (any_join c b chunkR (fun _ _ => rfl) chunkR_disj chunkR_cover)
theorem xv_split : anyM (F := F) c (Memref.whole cc0_scratch0 : Memref sig .tc .vmem S2x1024x1024 .f32) ⊢ bigSep Finset.univ fun j => anyM (F := F) c (xvM j) :=
  BIBase.Entails.trans (any_split c _ xvR (fun _ _ => rfl) xvR_disj xvR_cover) (bigSep_mono fun p _ => any_squeeze c _ _)
theorem xv_join : (bigSep Finset.univ fun j => anyM (F := F) c (xvM j)) ⊢ anyM (F := F) c (Memref.whole cc0_scratch0 : Memref sig .tc .vmem S2x1024x1024 .f32) :=
  BIBase.Entails.trans (bigSep_mono fun p _ => any_unsqueeze c _ _) (any_join c _ xvR (fun _ _ => rfl) xvR_disj xvR_cover)

/-! ## The halves of a chunk -/

theorem half_set (b : Memref sig .tc .vmem S4x1024x1024 .bf16) (k : Fin 4) (h : Fin 2) : (halfM b k h).view.set = (halfR k h).set.map b.view.emb := by
  rw [Memref.set_view_squeeze]; exact View.set_slice _ _
theorem chunk_set (b : Memref sig .tc .vmem S4x1024x1024 .bf16) (k : Fin 4) : (chunkM b k).view.set = (chunkR k).set.map b.view.emb := by
  rw [Memref.set_view_squeeze]; exact View.set_slice _ _
theorem halfR_disj (k : Fin 4) : Disjoint (halfR k 0).set (halfR k 1).set := Rect.unit_disjoint (1 : Fin 3) (.inl (by show 512 * 0 + 512 ≤ 512 * 1; decide))
theorem halfR_union (k : Fin 4) : (halfR k 0).set ∪ (halfR k 1).set = (chunkR k).set := by
  ext i
  rw [Finset.mem_union, Rect.mem_set_unit, Rect.mem_set_unit, Rect.mem_set_unit]
  have h0 (P : Fin 3 → Prop) : (∀ a, P a) ↔ P 0 ∧ P 1 ∧ P 2 := ⟨fun h => ⟨h 0, h 1, h 2⟩, fun h a => by fin_cases a; exacts [h.1, h.2.1, h.2.2]⟩
  rw [h0, h0, h0]
  show ((k.val ≤ (i 0).val ∧ (i 0).val < k.val + 1) ∧ (0 ≤ (i 1).val ∧ (i 1).val < 0 + 512) ∧ (0 ≤ (i 2).val ∧ (i 2).val < 0 + 1024))
      ∨ ((k.val ≤ (i 0).val ∧ (i 0).val < k.val + 1) ∧ (512 ≤ (i 1).val ∧ (i 1).val < 512 + 512) ∧ (0 ≤ (i 2).val ∧ (i 2).val < 0 + 1024))
      ↔ ((k.val ≤ (i 0).val ∧ (i 0).val < k.val + 1) ∧ (0 ≤ (i 1).val ∧ (i 1).val < 0 + 1024) ∧ (0 ≤ (i 2).val ∧ (i 2).val < 0 + 1024))
  omega
theorem half_union (b : Memref sig .tc .vmem S4x1024x1024 .bf16) (k : Fin 4) : (halfM b k 0).view.set ∪ (halfM b k 1).view.set = (chunkM b k).view.set := by
  rw [half_set, half_set, chunk_set, ← halfR_union, Finset.map_union]
theorem half_disj (b : Memref sig .tc .vmem S4x1024x1024 .bf16) (k : Fin 4) : Disjoint (halfM b k 0).view.set (halfM b k 1).view.set := by
  rw [half_set, half_set]; exact (Finset.disjoint_map _).mpr (halfR_disj k)

/-- A half of a chunk reads half of what the chunk reads. -/
theorem half_emb (b : Memref sig .tc .vmem S4x1024x1024 .bf16) (k : Fin 4) (h : Fin 2) (i : S512x1024.Idx) :
    (halfM b k h).view.emb i = (chunkM b k).view.emb (halfE h i) :=
  congrArg b.view.emb (chunk_half k h i _ _)
theorem half_read (b : Memref sig .tc .vmem S4x1024x1024 .bf16) (k : Fin 4) (h : Fin 2) (f : b.view.ty.Contents (Elt F)) :
    (halfM b k h).view.read (Elt F) f = halfOf h ((chunkM b k).view.read (Elt F) f) := by
  funext i
  show b.view.read (Elt F) f _ = b.view.read (Elt F) f _
  exact congrArg (b.view.read (Elt F) f) (chunk_half k h i _ _)

/-- A chunk is its two halves, -/
theorem half_split (b : Memref sig .tc .vmem S4x1024x1024 .bf16) (k : Fin 4) (q : PosShare TreeShare) (X : S1024x1024.Idx → Elt F .bf16) :
    (owns (c : Thread nD τ) (chunkM b k) q X : sProp 𝕄)
      ⊢ iprop(owns (c : Thread nD τ) (halfM b k 0) q (halfOf 0 X) ∗ owns (c : Thread nD τ) (halfM b k 1) q (halfOf 1 X)) := by
  unfold owns
  iintro ⟨%f, %hf, H⟩
  ihave H := (BIBase.Entails.trans (Entails.of_eq (congrArg (fun S => ((chunkM b k).view.loc (c : Thread nD τ) ↦[S]{q} f : sProp 𝕄)) (half_union b k).symm)) (pointsTo_union (half_disj b k)).1) $$ H
  icases H with ⟨H1, H2⟩
  isplitl [H1]
  · iexists f; isplitr; · ipureintro; rw [← hf]; exact half_read b k 0 f
    iexact H1
  · iexists f; isplitr; · ipureintro; rw [← hf]; exact half_read b k 1 f
    iexact H2
/-- and back. -/
theorem half_join (b : Memref sig .tc .vmem S4x1024x1024 .bf16) (k : Fin 4) (q : PosShare TreeShare) (X : S1024x1024.Idx → Elt F .bf16) :
    iprop(owns (c : Thread nD τ) (halfM b k 0) q (halfOf 0 X) ∗ owns (c : Thread nD τ) (halfM b k 1) q (halfOf 1 X))
      ⊢ (owns (c : Thread nD τ) (chunkM b k) q X : sProp 𝕄) := by
  classical
  unfold owns
  iintro ⟨⟨%f, %hf, H1⟩, ⟨%g, %hg, H2⟩⟩
  iexists ((halfM b k 1).view.set.piecewise g f)
  isplitr
  · ipureintro
    funext i
    have key : ∀ h, (halfM b k h).view.read (Elt F) ((halfM b k 1).view.set.piecewise g f) = halfOf h X → ∀ j, (chunkM b k).view.read (Elt F) ((halfM b k 1).view.set.piecewise g f) (halfE h j) = X (halfE h j) := by
      intro h hh j
      have := congrFun ((half_read b k h ((halfM b k 1).view.set.piecewise g f)).symm.trans hh) j
      exact this
    have h0 : (halfM b k 0).view.read (Elt F) ((halfM b k 1).view.set.piecewise g f) = halfOf 0 X := by
      rw [← hf]; funext j
      rw [View.read_apply, View.read_apply, Finset.piecewise_eq_of_notMem]
      exact Finset.disjoint_left.mp (half_disj b k) (Finset.mem_map_of_mem _ (Finset.mem_univ _))
    have h1 : (halfM b k 1).view.read (Elt F) ((halfM b k 1).view.set.piecewise g f) = halfOf 1 X := by
      rw [← hg]; funext j
      rw [View.read_apply, View.read_apply, Finset.piecewise_eq_of_mem]
      exact Finset.mem_map_of_mem _ (Finset.mem_univ _)
    have hh : ∀ h, (halfM b k h).view.read (Elt F) ((halfM b k 1).view.set.piecewise g f) = halfOf h X := fun h => by
      fin_cases h; exacts [h0, h1]
    have := key (halfNo i) (hh _) (halfBack i)
    rwa [halfE_back] at this
  · ihave H := (pointsTo_join (ℓ := (chunkM b k).view.loc (c : Thread nD τ)) (f := f) (g := g) (q := q) (half_disj b k)) $$ [H1 H2]
    · isplitl [H1] <;> iassumption
    ihave H := (Entails.of_eq (congrArg (fun S => ((chunkM b k).view.loc (c : Thread nD τ) ↦[S]{q} ((halfM b k 1).view.set.piecewise g f) : sProp 𝕄)) (half_union b k))) $$ H
    iexact H

end

/-! ## Loads and stores -/

theorem lift_bind {β : Type} (e : TpuEff nD τ sig (Elt F) Λ₀ .tc β) (g : β → KProg F α) : (Prog.lift e >>= g : KProg F α) = .op e g := rfl

section
variable (c : Dev nD)

theorem slot_read (b : Memref sig .tc .vmem S4x4x256x1024 .bf16) (k s : Fin 4) (f : b.view.ty.Contents (Elt F)) :
    (b.access (slotR k s)).read (Elt F) f = toSlot ((slotM b k s).view.read (Elt F) f) := by
  funext j
  show b.view.read (Elt F) f ((slotR k s).emb j) = b.view.read (Elt F) f ((slotR k s).emb (Shape.reshapeEquiv _ (Shape.reshapeEquiv _ j)))
  rw [Shape.reshapeEquiv_reshapeEquiv, Shape.reshapeEquiv_self]
theorem slot_read' (b : Memref sig .tc .vmem S4x4x256x1024 .bf16) (k s : Fin 4) (f : b.view.ty.Contents (Elt F)) :
    (slotM b k s).view.read (Elt F) f = ofSlot ((b.access (slotR k s)).read (Elt F) f) := by
  rw [slot_read, ofSlot_toSlot]
theorem slot_set (b : Memref sig .tc .vmem S4x4x256x1024 .bf16) (k s : Fin 4) : (b.access (slotR k s)).set = (slotM b k s).view.set :=
  (View.set_reshape (b.access (slotR k s)) _).symm

/-- A slot read. -/
theorem ldSlot_spec (b : Memref sig .tc .vmem S4x4x256x1024 .bf16) (k s : Fin 4) (X : FVec F S256x1024 .bf16) (g : Vec F S1x1x256x1024 .bf16 → KProg F α) (Q : α → sProp 𝕄) :
    ownM c (slotM b k s) X ⊢ iprop((ownM c (slotM b k s) X -∗ W c (g (toSlot X)) Q) -∗ W c (ldSlot b k s >>= g) Q) := by
  unfold ldSlot
  rw [lift_bind]
  unfold ownM owns
  iintro ⟨%f, %hf, H⟩ Hk
  iapply (wp_load_rect 𝒱₀ (c : Thread nD τ) none Set.univ (m := b) (r := slotR k s) (S := (slotM b k s).view.set) (f := f) (subset_of_eq (slot_set b k s))) $$ H
  iintro H
  rw [slot_read, hf]
  iapply Hk
  iexists f
  isplitr; · ipureintro; exact hf
  iexact H

/-- A slot read whose value is not used. -/
theorem ldSlot_any (b : Memref sig .tc .vmem S4x4x256x1024 .bf16) (k s : Fin 4) (p : KProg F α) (Q : α → sProp 𝕄) :
    anyM (F := F) c (slotM b k s) ⊢ iprop((anyM (F := F) c (slotM b k s) -∗ W c p Q) -∗ W c (ldSlot b k s >>= fun _ => p) Q) := by
  unfold anyM
  iintro ⟨%X, H⟩ Hk
  iapply (ldSlot_spec c b k s X (fun _ => p) Q) $$ H
  iintro H
  iapply Hk
  iexists X; iexact H

/-- A slot stored. -/
theorem stSlot_spec (b : Memref sig .tc .vmem S4x4x256x1024 .bf16) (hb : b.IsWhole) (k s : Fin 4) (Y : FVec F S256x1024 .bf16) (g : PUnit → KProg F α) (Q : α → sProp 𝕄) :
    anyM (F := F) c (slotM b k s) ⊢ iprop((ownM c (slotM b k s) Y -∗ W c (g ⟨⟩) Q) -∗ W c (stSlot b hb k s (toSlot Y) >>= g) Q) := by
  unfold stSlot
  rw [lift_bind]
  unfold anyM ownM owns
  iintro ⟨%X, %f, %hf, H⟩ Hk
  iapply (wp_store 𝒱₀ (c : Thread nD τ) none Set.univ (m := b) (r := slotR k s) (S := (slotM b k s).view.set) (f := f) (Mk := Finset.univ)
    (Finset.Subset.trans (View.setOn_subset_set _ _) (subset_of_eq (slot_set b k s)))) $$ H
  iintro H
  iapply Hk
  iexists ((b.access (slotR k s)).write (Elt F) f (toSlot Y) Finset.univ)
  isplitr
  · ipureintro; rw [slot_read', View.read_write_univ, ofSlot_toSlot]
  iexact H

/-- A block of a staging slot read. -/
theorem ldBlk_spec (j : Fin 2) (o : Fin 2 → ℕ) (h : BlkInb o) (q : Fin 4) (ho : o = ![256 * q.val, 0]) (X : Vec F S1024x1024 .f32) (g : Vec F S256x1024 .f32 → KProg F α) (Q : α → sProp 𝕄) :
    ownM c (xvM j) X ⊢ iprop((ownM c (xvM j) X -∗ W c (g (fun i => X ((xblkR q).emb i))) Q) -∗ W c (ldBlk j o h >>= g) Q) := by
  subst ho
  unfold ldBlk
  rw [lift_bind]
  unfold ownM owns
  iintro ⟨%f, %hf, H⟩ Hk
  iapply (wp_load_rect 𝒱₀ (c : Thread nD τ) none Set.univ (m := xvM j) (r := xblkR q) (S := (xvM j).view.set) (f := f) (View.set_slice_subset _ _)) $$ H
  iintro H
  subst hf
  iapply Hk
  iexists f
  isplitr; · ipureintro; rfl
  iexact H

/-! ## Blocks of the gathered chunk -/

/-- A chunk with block `q` replaced. -/
def putBlk (q : Fin 4) (Y : FVec F S256x1024 .bf16) (X : FVec F S1024x1024 .bf16) : FVec F S1024x1024 .bf16 :=
  fun i => if blkOf i = q then Y (rowIn i) else X i

/-- An index of a block with a leading unit axis, and back. -/
def gIdx (j : S256x1024.Idx) : S1x256x1024.Idx := Shape.reshapeEquiv (s := S1x256x1024) (s' := S256x1024) shapeCasts_S256x1024_S1x256x1024 j
def gBack (x : S1x256x1024.Idx) : S256x1024.Idx := Shape.reshapeEquiv (s := S256x1024) (s' := S1x256x1024) shapeCasts_S256x1024_S1x256x1024.symm x
theorem gIdx_gBack (x : S1x256x1024.Idx) : gIdx (gBack x) = x := (Shape.reshapeEquiv_reshapeEquiv _ _ _).trans (Shape.reshapeEquiv_self _ _)
theorem gBack_gIdx (j : S256x1024.Idx) : gBack (gIdx j) = j := (Shape.reshapeEquiv_reshapeEquiv _ _ _).trans (Shape.reshapeEquiv_self _ _)
theorem gblk_emb (b : Memref sig .tc .vmem S4x1024x1024 .bf16) (k q : Fin 4) (j : S256x1024.Idx) :
    (b.access (gblkR k q)).emb (gIdx j) = (chunkM b k).view.emb ((xblkR q).emb j) :=
  congrArg b.view.emb (chunk_gblk k q j _ _)
theorem gblk_subset (b : Memref sig .tc .vmem S4x1024x1024 .bf16) (k q : Fin 4) : (b.access (gblkR k q)).set ⊆ (chunkM b k).view.set := by
  intro i hi
  rw [View.set, Finset.mem_map] at hi
  obtain ⟨x, -, rfl⟩ := hi
  rw [← gIdx_gBack x, gblk_emb]
  exact Finset.mem_map_of_mem _ (Finset.mem_univ _)
theorem gblk_read (b : Memref sig .tc .vmem S4x1024x1024 .bf16) (k q : Fin 4) (f : b.view.ty.Contents (Elt F)) (Y : FVec F S256x1024 .bf16) :
    (chunkM b k).view.read (Elt F) ((b.access (gblkR k q)).write (Elt F) f (toBlk Y) Finset.univ) = putBlk q Y ((chunkM b k).view.read (Elt F) f) := by
  funext i
  unfold putBlk
  by_cases hq : blkOf i = q
  · rw [if_pos hq]
    subst hq
    have h1 := congrFun (View.read_write_univ (v := b.access (gblkR k (blkOf i))) (Val := Elt F) f (toBlk Y)) (gIdx (rowIn i))
    have h2 := gblk_emb b k (blkOf i) (rowIn i)
    rw [xblk_rowIn] at h2
    have h3 : toBlk Y (gIdx (rowIn i)) = Y (rowIn i) := congrArg Y (gBack_gIdx (rowIn i))
    rw [h3, View.read_apply, h2] at h1
    rw [← h1, View.read_apply]
  · rw [if_neg hq, View.read_apply, View.read_apply, View.write_of_not_mem]
    intro hi
    rw [View.setOn, Finset.mem_map] at hi
    obtain ⟨x, -, hx⟩ := hi
    rw [← gIdx_gBack x, gblk_emb] at hx
    have := (chunkM b k).view.emb.injective hx
    exact hq (by rw [← this, blkOf_xblk])

/-- A block of the gathered chunk stored. -/
theorem stGat_spec (k q : Fin 4) (o : Fin 3 → ℕ) (h : GBlkInb o) (hp : (Rect.unit (s := S4x1024x1024) o S1x256x1024.size h).PackedRows (EltTy.packing .bf16))
    (ho : o = ![k.val, 256 * q.val, 0]) (Y : FVec F S256x1024 .bf16) (X : FVec F S1024x1024 .bf16) (g : PUnit → KProg F α) (Q : α → sProp 𝕄) :
    ownM c (chunkM gB k) X ⊢ iprop((ownM c (chunkM gB k) (putBlk q Y X) -∗ W c (g ⟨⟩) Q) -∗ W c (stGat o h hp (toBlk Y) >>= g) Q) := by
  subst ho
  unfold stGat
  rw [bind_assoc, lift_bind]
  unfold ownM owns
  iintro ⟨%f, %hf, H⟩ Hk
  iapply (wp_load_rect 𝒱₀ (c : Thread nD τ) none Set.univ (m := gB) (r := gblkR k q) (S := (chunkM gB k).view.set) (f := f) (gblk_subset gB k q)) $$ H
  iintro H
  rw [lift_bind]
  iapply (wp_store 𝒱₀ (c : Thread nD τ) none Set.univ (m := gB) (r := gblkR k q) (S := (chunkM gB k).view.set) (f := f) (Mk := Finset.univ)
    (Finset.Subset.trans (View.setOn_subset_set _ _) (gblk_subset gB k q))) $$ H
  iintro H
  iapply Hk
  iexists ((gB.access (gblkR k q)).write (Elt F) f (toBlk Y) Finset.univ)
  isplitr
  · ipureintro; rw [gblk_read, hf]
  iexact H

/-! ## Local copies -/

/-- The start of a load of 1024 rows of the argument. -/
theorem ldStart_spec (j : Fin 2) (o : Fin 2 → ℕ) (h : RowInb o) (i : Fin 16) (ho : o = ![1024 * i.val, 0]) (X : Vec F S1024x1024 .f32) (g : PUnit → KProg F α) (Q : α → sProp 𝕄) :
    iprop(ownM c (argM i) X ∗ anyM (F := F) c (xvM j) ∗ zero c (ldSem j))
      ⊢ iprop((Flight EC (c : Thread nD τ) (.dma (ldSem j)) () (xvM j).view.dmaCredit (iprop(ownM c (xvM j) X ∗ ownM c (argM i) X)) -∗ W c (g ⟨⟩) Q) -∗ W c (ldStart j o h >>= g) Q) := by
  subst ho
  unfold ldStart
  rw [lift_bind]
  unfold anyM ownM owns zero
  iintro ⟨⟨%f, %hf, H⟩, ⟨%Y, %f', -, H'⟩, Hz⟩ Hk
  iapply (Transfers.wp_dmaLocal EC 𝒱₀ (c : Thread nD τ) none (src := argM i) (dst := xvM j) (sm := .dma (ldSem j)) (q := fullShare) (fs := f) (fd := f') (Sd := (xvM j).view.set) ()
    (xvM j).view.dmaCredit rfl (View.dmaCredit_pos _ (by decide)) (Finset.Subset.refl _)) $$ [H H' Hz]
  · isplitl [H]; · iexact H
    isplitl [H'] <;> iassumption
  iintro HF
  iapply Hk
  iapply (Transfers.Flight_mono EC (c : Thread nD τ) (D := iprop(((xvM j).view.loc (c : Thread nD τ) ↦[(xvM j).view.set]{fullShare} (xvM j).view.write (Elt F) f' ((argM i).view.read (Elt F) f) Finset.univ)
      ∗ ((argM i).view.loc (c : Thread nD τ) ↦[(argM i).view.set]{fullShare} f))) (by
    iintro ⟨H', H⟩
    isplitl [H']
    · iexists ((xvM j).view.write (Elt F) f' ((argM i).view.read (Elt F) f) Finset.univ)
      isplitr; · ipureintro; rw [View.read_write_univ, hf]
      iexact H'
    · iexists f
      isplitr; · ipureintro; exact hf
      iexact H)) $$ HF

/-- The start of the copy of a chunk to 1024 rows of the result. -/
theorem outStart_spec (b : Memref sig .tc .vmem S4x1024x1024 .bf16) (hb : b.IsWhole) (k j : Fin 4) (o : Fin 2 → ℕ) (h : RowInb o)
    (hw : (Rect.unit (s := S16384x1024) o S1024x1024.size h).WholeWords (EltTy.packing .bf16)) (i : Fin 16) (ho : o = ![1024 * i.val, 0]) (X : FVec F S1024x1024 .bf16) (g : PUnit → KProg F α) (Q : α → sProp 𝕄) :
    iprop(ownM c (chunkM b k) X ∗ anyM (F := F) c (outM i) ∗ zero c (outSem j))
      ⊢ iprop((Flight EC (c : Thread nD τ) (.dma (outSem j)) () (outM i).view.dmaCredit (iprop(ownM c (outM i) X ∗ ownM c (chunkM b k) X)) -∗ W c (g ⟨⟩) Q) -∗ W c (outStart b hb k j o h hw >>= g) Q) := by
  subst ho
  unfold outStart
  rw [lift_bind]
  unfold anyM ownM owns zero
  iintro ⟨⟨%f, %hf, H⟩, ⟨%Y, %f', -, H'⟩, Hz⟩ Hk
  iapply (Transfers.wp_dmaLocal EC 𝒱₀ (c : Thread nD τ) none (src := chunkM b k) (dst := outM i) (sm := .dma (outSem j)) (q := fullShare) (fs := f) (fd := f') (Sd := (outM i).view.set) ()
    (outM i).view.dmaCredit rfl (View.dmaCredit_pos _ (by decide)) (Finset.Subset.refl _)) $$ [H H' Hz]
  · isplitl [H]; · iexact H
    isplitl [H'] <;> iassumption
  iintro HF
  iapply Hk
  iapply (Transfers.Flight_mono EC (c : Thread nD τ) (D := iprop(((outM i).view.loc (c : Thread nD τ) ↦[(outM i).view.set]{fullShare} (outM i).view.write (Elt F) f' ((chunkM b k).view.read (Elt F) f) Finset.univ)
      ∗ ((chunkM b k).view.loc (c : Thread nD τ) ↦[(chunkM b k).view.set]{fullShare} f))) (by
    iintro ⟨H', H⟩
    isplitl [H']
    · iexists ((outM i).view.write (Elt F) f' ((chunkM b k).view.read (Elt F) f) Finset.univ)
      isplitr; · ipureintro; rw [View.read_write_univ, hf]
      iexact H'
    · iexists f
      isplitr; · ipureintro; exact hf
      iexact H)) $$ HF

/-- Sending event `e` from a memref whose contents are known. -/
theorem sendM (K : Dev nD × Option Ev → ℕ) (e : Ev) {sp sp' : Space} {sh : Shape} {et : EltTy}
    {src : Memref sig .tc sp sh et} {dst : Memref sig .tc sp' sh et} {ss rs : DmaSem sig} {dev : Dev nD} (hdev : dev = tgt e.2 c)
    (hrs : rs = semR e)
    {hsc : dst.view.ref.isScScratch = false} {hsrc : src.view.WordExact} {hdst : dst.view.WordExact}
    {hsem : DmaTarget.Typed sp (.dma rs) (.remote (Dev.tc dev : Thread nD τ) dst (.dma ss) hsc)}
    (q : PosShare TreeShare) (X : sh.Idx → Elt F et)
    (hland : land (F := F) e (tgt e.2 c) ⊢ anyM (tgt e.2 c) dst)
    (hpay : ownM (tgt e.2 c) dst X ⊢ pay m e (tgt e.2 c))
    (hamt : dst.view.dmaCredit = amt e.2)
    (k : PUnit → KProg F α) (Q : α → sProp 𝕄) :
    iprop(ctx m K ∗ owns (c : Thread nD τ) src q X ∗ zero c ss ∗ snd c e ∗ owesE c (ord e))
      ⊢ iprop(((Flight EC (c : Thread nD τ) (.dma ss) () (amt e.2) (owns (c : Thread nD τ) src q X)
            ∗ owesE c (ord e + 1)) -∗ W c (k ⟨⟩) Q)
          -∗ W c (.op (.enqueueDma src (.remote (Dev.tc dev : Thread nD τ) dst (.dma ss) hsc) (.dma rs) hsrc hdst hsem) k) Q) := by
  iintro ⟨#Hc, Hs, Hz, Hsnd, HO⟩ Hk
  unfold owns
  icases Hs with ⟨%f, %hf, Hs⟩
  iapply (sendF m K c e hdev hrs q f hland (by rw [hf]; exact hpay) hamt k Q) $$ [Hs Hz Hsnd HO]
  · isplitr; · iexact Hc
    isplitl [Hs]; · iexact Hs
    isplitl [Hz]; · iexact Hz
    isplitl [Hsnd] <;> iassumption
  iintro ⟨HF, HO⟩
  iapply Hk
  isplitl [HF]
  · iapply (Transfers.Flight_mono EC (c : Thread nD τ) (D := (src.view.loc (c : Thread nD τ) ↦[src.view.set]{q} f)) (by
      iintro H
      iexists f
      isplitr; · ipureintro; exact hf
      iexact H)) $$ HF
  iexact HO

end
end Cert.KernelIdeal.Proof

end
-- ==== Proof.KI.Steps.lean ====
module

public import proofs.«01_k».proof.Proof.KI.Mem

/-! One chunk's steps, at any device and any chunk: the two rings, the exchange with both peers, the forwarded halves and
    the copies to the result. Each says what the chunk's part of the program takes and what it leaves. -/

@[expose] public section

noncomputable section

namespace Cert.KernelIdeal.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable {α : Type} (c : Dev nD) (K : Dev nD × Option Ev → ℕ)

/-! ## One hop of a ring -/

theorem hop_spec (e : Ev) (l : LSem) (b : Memref sig .tc .vmem S4x4x256x1024 .bf16) (hb : b.IsWhole) (sn : DmaSems sig S3) (rc : DmaSems sig S4x4) (k : Fin 4) (s : Fin 3) (dev : Dev nD)
    (X : FVec F S256x1024 .bf16) (hdev : dev = tgt e.2 c) (hrs : at44 rc k s.succ = semR e) (hss : at3 sn s = semL l)
    (hland : land (F := F) e (tgt e.2 c) ⊢ anyM (tgt e.2 c) (slotM b k s.succ)) (hpay : ownM (tgt e.2 c) (slotM b k s.succ) X ⊢ pay m e (tgt e.2 c))
    (hamt : (slotM b k s.succ).view.dmaCredit = amt e.2) (hamt' : (slotM b k s.castSucc).view.dmaCredit = amt e.2) (g : PUnit → KProg F α) (Q : α → sProp 𝕄) :
    iprop(ctx m K ∗ ownM c (slotM b k s.castSucc) X ∗ zero c (at3 sn s) ∗ snd c e ∗ rcv c e ∗ owesE c (ord e))
      ⊢ iprop(((ownM c (slotM b k s.castSucc) X ∗ pay m e c ∗ zero c (at3 sn s) ∗ zero c (semR e) ∗ owesE c (ord e + 1)) -∗ W c (g ⟨⟩) Q)
          -∗ W c (hopP b hb sn rc k s dev >>= g) Q) := by
  unfold hopP
  simp only [bind_assoc, lift_bind]
  iintro ⟨#Hc, Hs, Hz, Hsnd, Hrcv, HO⟩ Hk
  iapply (sendM m c K e hdev hrs fullShare X hland hpay hamt) $$ [Hs Hz Hsnd HO]
  · isplitr; · iexact Hc
    isplitl [Hs]; · iexact Hs
    isplitl [Hz]; · iexact Hz
    isplitl [Hsnd] <;> iassumption
  iintro ⟨HF, HO⟩
  iapply (waitF m K c l hss hamt' (ord e + 1)) $$ [HF HO]
  · isplitr; · iexact Hc
    isplitl [HF] <;> iassumption
  iintro ⟨Hs, Hz, HO⟩
  iapply (waitR m K c e hrs hamt (ord e + 1) (Nat.lt_succ_self _)) $$ [Hrcv HO]
  · isplitr; · iexact Hc
    isplitl [Hrcv] <;> iassumption
  iintro ⟨Hp, Hz', HO⟩
  iapply Hk
  isplitl [Hs]; · iexact Hs
  isplitl [Hp]; · iexact Hp
  isplitl [Hz]; · iexact Hz
  isplitl [Hz'] <;> iassumption

/-- A hop of the first ring: the partial sum of the device before arrives. -/
theorem hop_rs (k : Fin 4) (s : Fin 3) (dev : Dev nD) (hdev : dev = right c) (g : PUnit → KProg F α) (Q : α → sProp 𝕄) :
    iprop(ctx m K ∗ ownM c (slotM rsB k s.castSucc) (part m k s c) ∗ zero c (rsSnd s) ∗ snd c (k, .rs s) ∗ rcv c (k, .rs s) ∗ owesE c (ord (k, .rs s)))
      ⊢ iprop(((anyM (F := F) c (slotM rsB k s.castSucc) ∗ ownM c (slotM rsB k s.succ) (part m k s (left c)) ∗ zero c (rsSnd s) ∗ zero c (semR (k, .rs s)) ∗ owesE c (ord (k, .rs s) + 1)) -∗ W c (g ⟨⟩) Q)
          -∗ W c (hopP rsB (Memref.isWhole_whole _) cc0_scratch9 cc0_scratch10 k s dev >>= g) Q) := by
  iintro H Hk
  iapply (hop_spec m c K (k, .rs s) (.inr (.inr (.inl s))) rsB (Memref.isWhole_whole _) cc0_scratch9 cc0_scratch10 k s dev (part m k s c) hdev rfl rfl .rfl
    (by unfold pay; dsimp only [tgt]; rw [left_right]) rfl rfl) $$ H
  iintro ⟨Hs, Hp, Hz, Hz', HO⟩
  iapply Hk
  isplitl [Hs]; · iapply (own_any c _ _) $$ Hs
  isplitl [Hp]; · unfold pay; iexact Hp
  isplitl [Hz]; · iexact Hz
  isplitl [Hz'] <;> iassumption

theorem zdev_mz : zdev c (mz c) = c := by revert c; decide
theorem zdev_mz0 : zdev c (mz c - 0) = c := by revert c; decide
theorem agv_right (k : Fin 4) (s : Fin 3) : agv m (right c) k s.succ = agv m c k s.castSucc := by
  have h : zdev (right c) (mz (right c) - s.succ) = zdev c (mz c - s.castSucc) := by revert c s; decide
  unfold agv; rw [h]

/-- A hop of the second ring: the finished block of the device `s + 1` places before arrives. -/
theorem hop_ag (k : Fin 4) (s : Fin 3) (dev : Dev nD) (hdev : dev = right c) (g : PUnit → KProg F α) (Q : α → sProp 𝕄) :
    iprop(ctx m K ∗ ownM c (slotM agB k s.castSucc) (agv m c k s.castSucc) ∗ zero c (agSnd s) ∗ snd c (k, .ag s) ∗ rcv c (k, .ag s) ∗ owesE c (ord (k, .ag s)))
      ⊢ iprop(((anyM (F := F) c (slotM agB k s.castSucc) ∗ ownM c (slotM agB k s.succ) (agv m c k s.succ) ∗ zero c (agSnd s) ∗ zero c (semR (k, .ag s)) ∗ owesE c (ord (k, .ag s) + 1)) -∗ W c (g ⟨⟩) Q)
          -∗ W c (hopP agB (Memref.isWhole_whole _) cc0_scratch11 cc0_scratch12 k s dev >>= g) Q) := by
  iintro H Hk
  iapply (hop_spec m c K (k, .ag s) (.inr (.inr (.inr (.inl s)))) agB (Memref.isWhole_whole _) cc0_scratch11 cc0_scratch12 k s dev (agv m c k s.castSucc) hdev rfl rfl .rfl
    (by unfold pay; dsimp only [tgt]; rw [agv_right]) rfl rfl) $$ H
  iintro ⟨Hs, Hp, Hz, Hz', HO⟩
  iapply Hk
  isplitl [Hs]; · iapply (own_any c _ _) $$ Hs
  isplitl [Hp]; · unfold pay; iexact Hp
  isplitl [Hz]; · iexact Hz
  isplitl [Hz'] <;> iassumption

/-! ## The steps between the hops -/

/-- The device's own block goes in slot 0. -/
theorem stage_spec (k : Fin 4) (j : Fin 2) (o : Fin 2 → ℕ) (h : BlkInb o) (ho : o = ![256 * (mz c).val, 0]) (g : PUnit → KProg F α) (Q : α → sProp 𝕄) :
    iprop(ownM c (xvM j) (chunkv m c k) ∗ anyM (F := F) c (slotM rsB k 0))
      ⊢ iprop(((ownM c (xvM j) (chunkv m c k) ∗ ownM c (slotM rsB k 0) (part m k 0 c)) -∗ W c (g ⟨⟩) Q) -∗ W c (stageP k j o h >>= g) Q) := by
  unfold stageP
  simp only [bind_assoc]
  iintro ⟨Hx, Hs⟩ Hk
  iapply (ldBlk_spec c j o h (mz c) ho) $$ Hx
  iintro Hx
  iapply (ldSlot_any c rsB k 0) $$ Hs
  iintro Hs
  iapply (stSlot_spec c rsB (Memref.isWhole_whole _) k 0) $$ Hs
  iintro Hs
  iapply Hk
  isplitl [Hx]; · iexact Hx
  iexact Hs

/-- A block is added to the partial sum that arrived. -/
theorem acc_spec (k : Fin 4) (s : Fin 3) (j : Fin 2) (o : Fin 2 → ℕ) (h : BlkInb o) (ho : o = ![256 * (mz c + 3 - Fin.ofNat 4 s.val).val, 0]) (g : PUnit → KProg F α) (Q : α → sProp 𝕄) :
    iprop(ownM c (xvM j) (chunkv m c k) ∗ ownM c (slotM rsB k s.succ) (part m k s (left c)))
      ⊢ iprop(((ownM c (xvM j) (chunkv m c k) ∗ ownM c (slotM rsB k s.succ) (part m k (s.val + 1) c)) -∗ W c (g ⟨⟩) Q) -∗ W c (accP k s.succ j o h >>= g) Q) := by
  unfold accP
  simp only [bind_assoc]
  iintro ⟨Hx, Hs⟩ Hk
  iapply (ldSlot_spec c rsB k s.succ) $$ Hs
  iintro Hs
  iapply (ldBlk_spec c j o h (mz c + 3 - Fin.ofNat 4 s.val) ho) $$ Hx
  iintro Hx
  ihave Hs := (own_any c _ _) $$ Hs
  iapply (ldSlot_any c rsB k s.succ) $$ Hs
  iintro Hs
  iapply (stSlot_spec c rsB (Memref.isWhole_whole _) k s.succ) $$ Hs
  iintro Hs
  iapply Hk
  isplitl [Hx]; · iexact Hx
  rw [ofSlot_toSlot]
  iexact Hs

/-- The finished block goes in the gathered chunk and in slot 0 of the second ring. -/
theorem own_spec (k : Fin 4) (j : Fin 2) (o : Fin 2 → ℕ) (h : BlkInb o) (o' : Fin 3 → ℕ) (h' : GBlkInb o')
    (hp : (Rect.unit (s := S4x1024x1024) o' S1x256x1024.size h').PackedRows (EltTy.packing .bf16))
    (ho : o = ![256 * (mz c + 3 - Fin.ofNat 4 2).val, 0]) (q : Fin 4) (ho' : o' = ![k.val, 256 * q.val, 0]) (X : FVec F S1024x1024 .bf16) (g : PUnit → KProg F α) (Q : α → sProp 𝕄) :
    iprop(ownM c (xvM j) (chunkv m c k) ∗ ownM c (slotM rsB k 3) (part m k 2 (left c)) ∗ ownM c (chunkM gB k) X ∗ anyM (F := F) c (slotM agB k 0))
      ⊢ iprop(((ownM c (xvM j) (chunkv m c k) ∗ anyM (F := F) c (slotM rsB k 3) ∗ ownM c (chunkM gB k) (putBlk q (agv m c k 0) X) ∗ ownM c (slotM agB k 0) (agv m c k 0)) -∗ W c (g ⟨⟩) Q)
        -∗ W c (ownP k j o h o' h' hp >>= g) Q) := by
  have hv : agv m c k 0 = addV (part m k 2 (left c)) (fun i => chunkv m c k ((xblkR (mz c + 3 - Fin.ofNat 4 2)).emb i)) := by
    unfold agv owned
    rw [zdev_mz0]
    rfl
  unfold ownP
  simp only [bind_assoc]
  iintro ⟨Hx, Hs, Hg, Ha⟩ Hk
  iapply (ldSlot_spec c rsB k 3) $$ Hs
  iintro Hs
  iapply (ldBlk_spec c j o h (mz c + 3 - Fin.ofNat 4 2) ho) $$ Hx
  iintro Hx
  rw [ofSlot_toSlot, ← hv]
  iapply (stGat_spec c k q o' h' hp ho') $$ Hg
  iintro Hg
  iapply (ldSlot_any c agB k 0) $$ Ha
  iintro Ha
  iapply (stSlot_spec c agB (Memref.isWhole_whole _) k 0) $$ Ha
  iintro Ha
  iapply Hk
  isplitl [Hx]; · iexact Hx
  isplitl [Hs]; · iapply (own_any c _ _) $$ Hs
  isplitl [Hg] <;> iassumption

/-- A block that arrived goes in the gathered chunk. -/
theorem put_spec (k s : Fin 4) (o' : Fin 3 → ℕ) (h' : GBlkInb o')
    (hp : (Rect.unit (s := S4x1024x1024) o' S1x256x1024.size h').PackedRows (EltTy.packing .bf16))
    (q : Fin 4) (ho' : o' = ![k.val, 256 * q.val, 0]) (Y : FVec F S256x1024 .bf16) (X : FVec F S1024x1024 .bf16) (g : PUnit → KProg F α) (Q : α → sProp 𝕄) :
    iprop(ownM c (slotM agB k s) Y ∗ ownM c (chunkM gB k) X)
      ⊢ iprop(((ownM c (slotM agB k s) Y ∗ ownM c (chunkM gB k) (putBlk q Y X)) -∗ W c (g ⟨⟩) Q) -∗ W c (putP k s o' h' hp >>= g) Q) := by
  unfold putP
  simp only [bind_assoc]
  iintro ⟨Ha, Hg⟩ Hk
  iapply (ldSlot_spec c agB k s) $$ Ha
  iintro Ha
  rw [ofSlot_toSlot]
  iapply (stGat_spec c k q o' h' hp ho') $$ Hg
  iintro Hg
  iapply Hk
  isplitl [Ha] <;> iassumption

/-- The gathered chunk when its four blocks are in. -/
theorem gat_eq (k : Fin 4) (X : FVec F S1024x1024 .bf16) :
    putBlk (mz c + 1 - 3) (agv m c k 3) (putBlk (mz c + 1 - 2) (agv m c k 2) (putBlk (mz c + 1 - 1) (agv m c k 1) (putBlk (mz c + 1) (agv m c k 0) X))) = gat m c k := by
  funext i
  unfold putBlk gat agv
  have h : ∀ z b : Fin 4, (b = z + 1 - 3 ∧ z - 3 = b + 3) ∨ (b ≠ z + 1 - 3 ∧ b = z + 1 - 2 ∧ z - 2 = b + 3) ∨ (b ≠ z + 1 - 3 ∧ b ≠ z + 1 - 2 ∧ b = z + 1 - 1 ∧ z - 1 = b + 3)
      ∨ (b ≠ z + 1 - 3 ∧ b ≠ z + 1 - 2 ∧ b ≠ z + 1 - 1 ∧ b = z + 1 ∧ z - 0 = b + 3) := by decide
  rcases h (mz c) (blkOf i) with ⟨h1, h2⟩ | ⟨h1, h2, h3⟩ | ⟨h1, h2, h3, h4⟩ | ⟨h1, h2, h3, h4, h5⟩
  · rw [if_pos h1, h2]
  · rw [if_neg h1, if_pos h2, h3]
  · rw [if_neg h1, if_neg h2, if_pos h3, h4]
  · rw [if_neg h1, if_neg h2, if_neg h3, if_pos h4, h5]

/-! ## A chunk's two rings -/

/-- The sending semaphores of both rings, at zero. -/
def hopZ : sProp 𝕄 := iprop(zero c (rsSnd 0) ∗ zero c (rsSnd 1) ∗ zero c (rsSnd 2) ∗ zero c (agSnd 0) ∗ zero c (agSnd 1) ∗ zero c (agSnd 2))
/-- What chunk `k`'s rings take. -/
def ringIn (k : Fin 4) : sProp 𝕄 :=
  iprop(anyM (F := F) c (slotM rsB k 0) ∗ anyM (F := F) c (slotM agB k 0) ∗ anyM (F := F) c (chunkM gB k)
    ∗ (snd c (k, .rs 0) ∗ snd c (k, .rs 1) ∗ snd c (k, .rs 2) ∗ snd c (k, .ag 0) ∗ snd c (k, .ag 1) ∗ snd c (k, .ag 2) ∗ snd c (k, .x) ∗ snd c (k, .y))
    ∗ (rcv c (k, .rs 0) ∗ rcv c (k, .rs 1) ∗ rcv c (k, .rs 2) ∗ rcv c (k, .ag 0) ∗ rcv c (k, .ag 1) ∗ rcv c (k, .ag 2))
    ∗ zero c (p2Snd k 0) ∗ zero c (p2Snd k 1))
/-- What is in flight after them: the gathered chunk, on its way to both peers. -/
def ringMid (k : Fin 4) : sProp 𝕄 :=
  iprop(Flight EC (c : Thread nD τ) (.dma (p2Snd k 0)) () (amt .x) (owns (c : Thread nD τ) (chunkM gB k) fullShare.left (gat m c k))
    ∗ Flight EC (c : Thread nD τ) (.dma (p2Snd k 1)) () (amt .y) (owns (c : Thread nD τ) (chunkM gB k) fullShare.right (gat m c k)))
/-- What they leave done: the slots of both rings, the receiving semaphores at zero. -/
def ringDone (k : Fin 4) : sProp 𝕄 :=
  iprop((anyM (F := F) c (slotM rsB k 0) ∗ anyM (F := F) c (slotM rsB k 1) ∗ anyM (F := F) c (slotM rsB k 2) ∗ anyM (F := F) c (slotM rsB k 3))
    ∗ (anyM (F := F) c (slotM agB k 0) ∗ anyM (F := F) c (slotM agB k 1) ∗ anyM (F := F) c (slotM agB k 2) ∗ anyM (F := F) c (slotM agB k 3))
    ∗ (zero c (semR (k, .rs 0)) ∗ zero c (semR (k, .rs 1)) ∗ zero c (semR (k, .rs 2)) ∗ zero c (semR (k, .ag 0)) ∗ zero c (semR (k, .ag 1)) ∗ zero c (semR (k, .ag 2))))

/-- The printed offsets and devices of a chunk are the closed ones. -/
structure RingOK (k : Fin 4) (A : RingArgs) : Prop where
  oa : A.oa = ![256 * (mz c).val, 0]
  ob : A.ob = ![256 * (mz c + 3 - Fin.ofNat 4 0).val, 0]
  oc : A.oc = ![256 * (mz c + 3 - Fin.ofNat 4 1).val, 0]
  od : A.od = ![256 * (mz c + 3 - Fin.ofNat 4 2).val, 0]
  g0 : A.g0 = ![k.val, 256 * (mz c + 1).val, 0]
  g1 : A.g1 = ![k.val, 256 * (mz c + 1 - 1).val, 0]
  g2 : A.g2 = ![k.val, 256 * (mz c + 1 - 2).val, 0]
  g3 : A.g3 = ![k.val, 256 * (mz c + 1 - 3).val, 0]
  r0 : A.r0 = right c
  r1 : A.r1 = right c
  r2 : A.r2 = right c
  a0 : A.a0 = right c
  a1 : A.a1 = right c
  a2 : A.a2 = right c
  dx : A.dx = px c
  dy : A.dy = py c

theorem ord_step (k : Fin 4) : ord (k, .rs 0) + 1 = ord (k, .rs 1) ∧ ord (k, .rs 1) + 1 = ord (k, .rs 2) ∧ ord (k, .rs 2) + 1 = ord (k, .ag 0) ∧ ord (k, .ag 0) + 1 = ord (k, .ag 1)
    ∧ ord (k, .ag 1) + 1 = ord (k, .ag 2) ∧ ord (k, .ag 2) + 1 = ord (k, .x) ∧ ord (k, .x) + 1 = ord (k, .y) ∧ ord (k, .dx) + 1 = ord (k, .dy) := by
  revert k; decide

/-- The exchange of a gathered chunk with both peers is started. -/
theorem xy_spec (k : Fin 4) (devx devy : Dev nD) (hx : devx = px c) (hy : devy = py c) (g : PUnit → KProg F α) (Q : α → sProp 𝕄) :
    iprop(ctx m K ∗ ownM c (chunkM gB k) (gat m c k) ∗ (snd c (k, .x) ∗ snd c (k, .y)) ∗ zero c (p2Snd k 0) ∗ zero c (p2Snd k 1) ∗ owesE c (ord (k, .x)))
      ⊢ iprop(((ringMid m c k ∗ owesE c (ord (k, .y) + 1)) -∗ W c (g ⟨⟩) Q) -∗ W c (xyP k devx devy >>= g) Q) := by
  unfold xyP sendChunk ringMid
  simp only [bind_assoc, lift_bind]
  iintro ⟨#Hc, Hg, ⟨Hs1, Hs2⟩, Hz1, Hz2, HO⟩ Hk
  ihave Hg := (owns_halve c _ _) $$ Hg
  icases Hg with ⟨Hg1, Hg2⟩
  iapply (sendM m c K (k, .x) (src := chunkM gB k) (dst := chunkM xB k) hx rfl fullShare.left (gat m c k) .rfl (by unfold pay; dsimp only [tgt]; rw [px_px]) rfl) $$ [Hg1 Hz1 Hs1 HO]
  · isplitr; · iexact Hc
    isplitl [Hg1]; · iexact Hg1
    isplitl [Hz1]; · iexact Hz1
    isplitl [Hs1] <;> iassumption
  iintro ⟨HF1, HO⟩
  rw [(ord_step k).2.2.2.2.2.2.1]
  iapply (sendM m c K (k, .y) (src := chunkM gB k) (dst := chunkM yB k) hy rfl fullShare.right (gat m c k) .rfl (by unfold pay; dsimp only [tgt]; rw [py_py]) rfl) $$ [Hg2 Hz2 Hs2 HO]
  · isplitr; · iexact Hc
    isplitl [Hg2]; · iexact Hg2
    isplitl [Hz2]; · iexact Hz2
    isplitl [Hs2] <;> iassumption
  iintro ⟨HF2, HO⟩
  iapply Hk
  isplitl [HF1 HF2]
  · isplitl [HF1] <;> iassumption
  iexact HO

theorem ring_spec (k : Fin 4) (j : Fin 2) (A : RingArgs) (hA : RingOK c k A) (g : PUnit → KProg F α) (Q : α → sProp 𝕄) :
    iprop(ctx m K ∗ hopZ (F := F) c ∗ ownM c (xvM j) (chunkv m c k) ∗ ringIn (F := F) c k ∗ owesE c (ord (k, .rs 0)))
      ⊢ iprop(((hopZ (F := F) c ∗ ownM c (xvM j) (chunkv m c k) ∗ ringMid m c k ∗ ringDone (F := F) c k ∗ owesE c (ord (k, .y) + 1)) -∗ W c (g ⟨⟩) Q)
          -∗ W c (ringP k j A >>= g) Q) := by
  unfold ringP hopZ ringIn
  simp only [bind_assoc]
  obtain ⟨o1, o2, o3, o4, o5, o6, -, -⟩ := ord_step k
  iintro ⟨#Hc, ⟨Hr0, Hr1, Hr2, Ha0, Ha1, Ha2⟩, Hx, ⟨Hs, Ha, Hg, ⟨Hsr0, Hsr1, Hsr2, Hsa0, Hsa1, Hsa2, Hsx, Hsy⟩, ⟨Hwr0, Hwr1, Hwr2, Hwa0, Hwa1, Hwa2⟩, Hz0, Hz1⟩, HO⟩ Hk
  unfold anyM
  icases Hg with ⟨%X, Hg⟩
  iapply (stage_spec m c k j A.oa A.ha hA.oa) $$ [Hx Hs]
  · isplitl [Hx]; · iexact Hx
    unfold anyM; iexact Hs
  iintro ⟨Hx, Hs⟩
  iapply (hop_rs m c K k 0 A.r0 hA.r0) $$ [Hs Hr0 Hsr0 Hwr0 HO]
  · isplitr; · iexact Hc
    isplitl [Hs]; · iexact Hs
    isplitl [Hr0]; · iexact Hr0
    isplitl [Hsr0]; · iexact Hsr0
    isplitl [Hwr0] <;> iassumption
  iintro ⟨HS0, Hs, Hr0, HZ0, HO⟩
  rw [o1]
  iapply (acc_spec m c k 0 j A.ob A.hb hA.ob) $$ [Hx Hs]
  · isplitl [Hx] <;> iassumption
  iintro ⟨Hx, Hs⟩
  iapply (hop_rs m c K k 1 A.r1 hA.r1) $$ [Hs Hr1 Hsr1 Hwr1 HO]
  · isplitr; · iexact Hc
    isplitl [Hs]; · iexact Hs
    isplitl [Hr1]; · iexact Hr1
    isplitl [Hsr1]; · iexact Hsr1
    isplitl [Hwr1] <;> iassumption
  iintro ⟨HS1, Hs, Hr1, HZ1, HO⟩
  rw [o2]
  iapply (acc_spec m c k 1 j A.oc A.hc hA.oc) $$ [Hx Hs]
  · isplitl [Hx] <;> iassumption
  iintro ⟨Hx, Hs⟩
  iapply (hop_rs m c K k 2 A.r2 hA.r2) $$ [Hs Hr2 Hsr2 Hwr2 HO]
  · isplitr; · iexact Hc
    isplitl [Hs]; · iexact Hs
    isplitl [Hr2]; · iexact Hr2
    isplitl [Hsr2]; · iexact Hsr2
    isplitl [Hwr2] <;> iassumption
  iintro ⟨HS2, Hs, Hr2, HZ2, HO⟩
  rw [o3]
  iapply (own_spec m c k j A.od A.hd A.g0 A.hg0 A.p0 hA.od (mz c + 1) hA.g0 X) $$ [Hx Hs Hg Ha]
  · isplitl [Hx]; · iexact Hx
    isplitl [Hs]; · iexact Hs
    isplitl [Hg]; · iexact Hg
    unfold anyM; iexact Ha
  iintro ⟨Hx, HS3, Hg, Ha⟩
  iapply (hop_ag m c K k 0 A.a0 hA.a0) $$ [Ha Ha0 Hsa0 Hwa0 HO]
  · isplitr; · iexact Hc
    isplitl [Ha]; · iexact Ha
    isplitl [Ha0]; · iexact Ha0
    isplitl [Hsa0]; · iexact Hsa0
    isplitl [Hwa0] <;> iassumption
  iintro ⟨HA0, Ha, Ha0, HZ3, HO⟩
  rw [o4]
  iapply (put_spec c k 1 A.g1 A.hg1 A.p1 (mz c + 1 - 1) hA.g1 (agv m c k 1)) $$ [Ha Hg]
  · isplitl [Ha]; · iexact Ha
    iexact Hg
  iintro ⟨Ha, Hg⟩
  iapply (hop_ag m c K k 1 A.a1 hA.a1) $$ [Ha Ha1 Hsa1 Hwa1 HO]
  · isplitr; · iexact Hc
    isplitl [Ha]; · iexact Ha
    isplitl [Ha1]; · iexact Ha1
    isplitl [Hsa1]; · iexact Hsa1
    isplitl [Hwa1] <;> iassumption
  iintro ⟨HA1, Ha, Ha1, HZ4, HO⟩
  rw [o5]
  iapply (put_spec c k 2 A.g2 A.hg2 A.p2 (mz c + 1 - 2) hA.g2 (agv m c k 2)) $$ [Ha Hg]
  · isplitl [Ha]; · iexact Ha
    iexact Hg
  iintro ⟨Ha, Hg⟩
  iapply (hop_ag m c K k 2 A.a2 hA.a2) $$ [Ha Ha2 Hsa2 Hwa2 HO]
  · isplitr; · iexact Hc
    isplitl [Ha]; · iexact Ha
    isplitl [Ha2]; · iexact Ha2
    isplitl [Hsa2]; · iexact Hsa2
    isplitl [Hwa2] <;> iassumption
  iintro ⟨HA2, Ha, Ha2, HZ5, HO⟩
  rw [o6]
  iapply (put_spec c k 3 A.g3 A.hg3 A.p3 (mz c + 1 - 3) hA.g3 (agv m c k 3)) $$ [Ha Hg]
  · isplitl [Ha]; · iexact Ha
    iexact Hg
  iintro ⟨Ha, Hg⟩
  rw [gat_eq]
  iapply (xy_spec m c K k A.dx A.dy hA.dx hA.dy) $$ [Hg Hsx Hsy Hz0 Hz1 HO]
  · isplitr; · iexact Hc
    isplitl [Hg]; · iexact Hg
    isplitl [Hsx Hsy]; · isplitl [Hsx] <;> iassumption
    isplitl [Hz0]; · iexact Hz0
    isplitl [Hz1] <;> iassumption
  iintro ⟨HM, HO⟩
  iapply Hk
  isplitl [Hr0 Hr1 Hr2 Ha0 Ha1 Ha2]
  · isplitl [Hr0]; · iexact Hr0
    isplitl [Hr1]; · iexact Hr1
    isplitl [Hr2]; · iexact Hr2
    isplitl [Ha0]; · iexact Ha0
    isplitl [Ha1] <;> iassumption
  isplitl [Hx]; · iexact Hx
  isplitl [HM]; · iexact HM
  isplitr [HO]
  · unfold ringDone
    isplitl [HS0 HS1 HS2 HS3]
    · isplitl [HS0]; · iexact HS0
      isplitl [HS1]; · iexact HS1
      isplitl [HS2]; · iexact HS2
      iexact HS3
    isplitl [HA0 HA1 HA2 Ha]
    · isplitl [HA0]; · iexact HA0
      isplitl [HA1]; · iexact HA1
      isplitl [HA2]; · iexact HA2
      iapply (own_any c _ _) $$ Ha
    isplitl [HZ0]; · iexact HZ0
    isplitl [HZ1]; · iexact HZ1
    isplitl [HZ2]; · iexact HZ2
    isplitl [HZ3]; · iexact HZ3
    isplitl [HZ4] <;> iassumption
  iexact HO

/-! ## The exchanges received and forwarded -/

def s1In (k : Fin 4) : sProp 𝕄 := iprop((rcv c (k, .x) ∗ rcv c (k, .y)) ∗ (snd c (k, .dx) ∗ snd c (k, .dy)) ∗ zero c (p2Snd k 2) ∗ zero c (p2Snd k 3))
def s1Mid (k : Fin 4) : sProp 𝕄 :=
  iprop(ownM c (chunkM gB k) (gat m c k)
    ∗ (Flight EC (c : Thread nD τ) (.dma (p2Snd k 2)) () (amt .dx) (ownM c (halfM yB k 0) (halfOf 0 (gat m (py c) k))) ∗ ownM c (halfM yB k 1) (halfOf 1 (gat m (py c) k)))
    ∗ (Flight EC (c : Thread nD τ) (.dma (p2Snd k 3)) () (amt .dy) (ownM c (halfM xB k 1) (halfOf 1 (gat m (px c) k))) ∗ ownM c (halfM xB k 0) (halfOf 0 (gat m (px c) k))))
def s1Done (k : Fin 4) : sProp 𝕄 := iprop(zero c (p2Snd k 0) ∗ zero c (p2Snd k 1) ∗ zero c (semR (k, .x)) ∗ zero c (semR (k, .y)))

theorem pay_x (k : Fin 4) : pay m (k, .x) c = ownM c (chunkM xB k) (gat m (px c) k) := rfl
theorem pay_y (k : Fin 4) : pay m (k, .y) c = ownM c (chunkM yB k) (gat m (py c) k) := rfl
theorem px_py (c : Dev nD) : px (py c) = py (px c) := by revert c; decide
theorem pay_dx (k : Fin 4) : pay m (k, .dx) c = ownM c (halfM dB k 0) (halfOf 0 (gat m (px (py c)) k)) := by rw [px_py]; rfl
theorem pay_dy (k : Fin 4) : pay m (k, .dy) c = ownM c (halfM dB k 1) (halfOf 1 (gat m (px (py c)) k)) := rfl

theorem ord_x_lt (k : Fin 4) : ord (k, .x) < ord (k, .dx) ∧ ord (k, .y) < ord (k, .dx) := by revert k; decide

theorem s1_spec (k : Fin 4) (devx devy : Dev nD) (hx : devx = px c) (hy : devy = py c) (g : PUnit → KProg F α) (Q : α → sProp 𝕄) :
    iprop(ctx m K ∗ ringMid m c k ∗ s1In (F := F) c k ∗ owesE c (ord (k, .dx)))
      ⊢ iprop(((s1Mid m c k ∗ s1Done (F := F) c k ∗ owesE c (ord (k, .dy) + 1)) -∗ W c (g ⟨⟩) Q) -∗ W c (s1P k devx devy >>= g) Q) := by
  unfold s1P waitChunk sendHalf
  simp only [bind_assoc, lift_bind]
  unfold ringMid s1In
  iintro ⟨#Hc, ⟨HF0, HF1⟩, ⟨⟨Hx, Hy⟩, ⟨Hsx, Hsy⟩, Hz2, Hz3⟩, HO⟩ Hk
  iapply (waitF m K c (.inr (.inr (.inr (.inr (k, 0))))) (ss := p2Snd k 0) rfl (show (chunkM gB k).view.dmaCredit = amt .x from rfl) (ord (k, .dx))) $$ [HF0 HO]
  · isplitr; · iexact Hc
    isplitl [HF0] <;> iassumption
  iintro ⟨Hg0, Hz0, HO⟩
  iapply (waitR m K c (k, .x) rfl (show (chunkM xB k).view.dmaCredit = amt .x from rfl) (ord (k, .dx)) (ord_x_lt k).1) $$ [Hx HO]
  · isplitr; · iexact Hc
    isplitl [Hx] <;> iassumption
  iintro ⟨Hx, Hzx, HO⟩
  iapply (waitF m K c (.inr (.inr (.inr (.inr (k, 1))))) (ss := p2Snd k 1) rfl (show (chunkM gB k).view.dmaCredit = amt .y from rfl) (ord (k, .dx))) $$ [HF1 HO]
  · isplitr; · iexact Hc
    isplitl [HF1] <;> iassumption
  iintro ⟨Hg1, Hz1, HO⟩
  iapply (waitR m K c (k, .y) rfl (show (chunkM yB k).view.dmaCredit = amt .y from rfl) (ord (k, .dx)) (ord_x_lt k).2) $$ [Hy HO]
  · isplitr; · iexact Hc
    isplitl [Hy] <;> iassumption
  iintro ⟨Hy, Hzy, HO⟩
  ihave Hg := (owns_unhalve c (chunkM gB k) (gat m c k)) $$ [Hg0 Hg1]
  · isplitl [Hg0] <;> iassumption
  ihave Hx := (Entails.of_eq (pay_x m c k)) $$ Hx
  ihave Hy := (Entails.of_eq (pay_y m c k)) $$ Hy
  ihave Hx := (half_split c xB k fullShare (gat m (px c) k)) $$ Hx
  ihave Hy := (half_split c yB k fullShare (gat m (py c) k)) $$ Hy
  icases Hx with ⟨Hx0, Hx1⟩
  icases Hy with ⟨Hy0, Hy1⟩
  iapply (sendM m c K (k, .dx) (src := halfM yB k 0) (dst := halfM dB k 0) hx rfl fullShare (halfOf 0 (gat m (py c) k)) .rfl (by unfold pay; dsimp only [tgt]; rw [px_px]) rfl) $$ [Hy0 Hz2 Hsx HO]
  · isplitr; · iexact Hc
    isplitl [Hy0]; · iexact Hy0
    isplitl [Hz2]; · iexact Hz2
    isplitl [Hsx] <;> iassumption
  iintro ⟨HF2, HO⟩
  rw [(ord_step k).2.2.2.2.2.2.2]
  iapply (sendM m c K (k, .dy) (src := halfM xB k 1) (dst := halfM dB k 1) hy rfl fullShare (halfOf 1 (gat m (px c) k)) .rfl (by unfold pay; dsimp only [tgt]; rw [py_py]) rfl) $$ [Hx1 Hz3 Hsy HO]
  · isplitr; · iexact Hc
    isplitl [Hx1]; · iexact Hx1
    isplitl [Hz3]; · iexact Hz3
    isplitl [Hsy] <;> iassumption
  iintro ⟨HF3, HO⟩
  iapply Hk
  isplitl [Hg HF2 Hy1 HF3 Hx0]
  · unfold s1Mid
    isplitl [Hg]; · iexact Hg
    isplitl [HF2 Hy1]
    · isplitl [HF2] <;> iassumption
    isplitl [HF3] <;> iassumption
  isplitl [Hz0 Hz1 Hzx Hzy]
  · unfold s1Done
    isplitl [Hz0]; · iexact Hz0
    isplitl [Hz1]; · iexact Hz1
    isplitl [Hzx] <;> iassumption
  iexact HO

/-! ## The forwarded halves received, and the copies to the result -/

/-- The semaphores of the copies to the result, at zero. -/
def outZ : sProp 𝕄 := iprop(zero c (outSem 0) ∗ zero c (outSem 1) ∗ zero c (outSem 2) ∗ zero c (outSem 3))
/-- The four parts of the result chunk `k` goes to. -/
def outAny (k : Fin 4) : sProp 𝕄 :=
  iprop(anyM (F := F) c (outM (tileIx (quad c) k)) ∗ anyM (F := F) c (outM (tileIx (quad (px c)) k)) ∗ anyM (F := F) c (outM (tileIx (quad (py c)) k)) ∗ anyM (F := F) c (outM (tileIx (quad (px (py c))) k)))
/-- The same, filled. -/
def outFull (k : Fin 4) : sProp 𝕄 :=
  iprop(ownM c (outM (tileIx (quad c) k)) (gat m c k) ∗ ownM c (outM (tileIx (quad (px c)) k)) (gat m (px c) k) ∗ ownM c (outM (tileIx (quad (py c)) k)) (gat m (py c) k) ∗ ownM c (outM (tileIx (quad (px (py c))) k)) (gat m (px (py c)) k))
def s2In (k : Fin 4) : sProp 𝕄 := iprop((rcv c (k, .dx) ∗ rcv c (k, .dy)) ∗ outAny (F := F) c k)
def s2Done (k : Fin 4) : sProp 𝕄 :=
  iprop(outFull m c k ∗ (anyM (F := F) c (chunkM gB k) ∗ anyM (F := F) c (chunkM xB k) ∗ anyM (F := F) c (chunkM yB k) ∗ anyM (F := F) c (chunkM dB k))
    ∗ zero c (p2Snd k 2) ∗ zero c (p2Snd k 3) ∗ zero c (semR (k, .dx)) ∗ zero c (semR (k, .dy)))

theorem outWait_spec (b : Memref sig .tc .vmem S4x1024x1024 .bf16) (hb : b.IsWhole) (k j : Fin 4) (o : Fin 2 → ℕ) (h : RowInb o)
    (hw : (Rect.unit (s := S16384x1024) o S1024x1024.size h).WholeWords (EltTy.packing .bf16)) (i : Fin 16) (n : ℕ) (D : sProp 𝕄) (g : PUnit → KProg F α) (Q : α → sProp 𝕄) :
    iprop(ctx m K ∗ Flight EC (c : Thread nD τ) (.dma (outSem j)) () (outM i).view.dmaCredit D ∗ owesE c n)
      ⊢ iprop(((D ∗ zero c (outSem j) ∗ owesE c n) -∗ W c (g ⟨⟩) Q) -∗ W c (outWait b hb k j o h hw >>= g) Q) := by
  unfold outWait
  rw [lift_bind]
  exact waitF m K c (.inr (.inl j)) rfl (dstw := (Memref.whole main_v1 : Memref sig .tc .hbm S16384x1024 .bf16).slice (Rect.unit (s := S16384x1024) o S1024x1024.size h) (fun _ => rfl)) rfl n D g Q
theorem ldWait_spec (j : Fin 2) (o : Fin 2 → ℕ) (h : RowInb o) (n : ℕ) (D : sProp 𝕄) (g : PUnit → KProg F α) (Q : α → sProp 𝕄) :
    iprop(ctx m K ∗ Flight EC (c : Thread nD τ) (.dma (ldSem j)) () (xvM j).view.dmaCredit D ∗ owesE c n)
      ⊢ iprop(((D ∗ zero c (ldSem j) ∗ owesE c n) -∗ W c (g ⟨⟩) Q) -∗ W c (ldWait j o h >>= g) Q) := by
  unfold ldWait
  rw [lift_bind]
  exact waitF m K c (.inl j) rfl (dstw := xvM j) rfl n D g Q

theorem s2_spec (k : Fin 4) (q0 q1 q2 q3 : OutOff) (h0 : q0.o = ![1024 * (tileIx (quad c) k).val, 0]) (h1 : q1.o = ![1024 * (tileIx (quad (px c)) k).val, 0])
    (h2 : q2.o = ![1024 * (tileIx (quad (py c)) k).val, 0]) (h3 : q3.o = ![1024 * (tileIx (quad (px (py c))) k).val, 0]) (n : ℕ) (hn : ord (k, .dy) < n) (g : PUnit → KProg F α) (Q : α → sProp 𝕄) :
    iprop(ctx m K ∗ outZ (F := F) c ∗ s1Mid m c k ∗ s2In (F := F) c k ∗ owesE c n)
      ⊢ iprop(((outZ (F := F) c ∗ s2Done m c k ∗ owesE c n) -∗ W c (g ⟨⟩) Q) -∗ W c (s2P k q0 q1 q2 q3 >>= g) Q) := by
  have hn' : ord (k, .dx) < n := by have := (ord_step k).2.2.2.2.2.2.2; omega
  unfold s2P waitHalf
  simp only [bind_assoc, lift_bind]
  unfold s1Mid s2In outZ outAny
  iintro ⟨#Hc, ⟨HZ0, HZ1, HZ2, HZ3⟩, ⟨Hg, ⟨HF2, Hy1⟩, ⟨HF3, Hx0⟩⟩, ⟨⟨Hdx, Hdy⟩, ⟨Ho0, Ho1, Ho2, Ho3⟩⟩, HO⟩ Hk
  iapply (waitF m K c (.inr (.inr (.inr (.inr (k, 2))))) (ss := p2Snd k 2) rfl (show (halfM yB k 0).view.dmaCredit = amt .dx from rfl) n) $$ [HF2 HO]
  · isplitr; · iexact Hc
    isplitl [HF2] <;> iassumption
  iintro ⟨Hy0, Hz2, HO⟩
  iapply (waitR m K c (k, .dx) rfl (show (halfM dB k 0).view.dmaCredit = amt .dx from rfl) n hn') $$ [Hdx HO]
  · isplitr; · iexact Hc
    isplitl [Hdx] <;> iassumption
  iintro ⟨Hdx, Hzx, HO⟩
  iapply (waitF m K c (.inr (.inr (.inr (.inr (k, 3))))) (ss := p2Snd k 3) rfl (show (halfM xB k 1).view.dmaCredit = amt .dy from rfl) n) $$ [HF3 HO]
  · isplitr; · iexact Hc
    isplitl [HF3] <;> iassumption
  iintro ⟨Hx1, Hz3, HO⟩
  iapply (waitR m K c (k, .dy) rfl (show (halfM dB k 1).view.dmaCredit = amt .dy from rfl) n hn) $$ [Hdy HO]
  · isplitr; · iexact Hc
    isplitl [Hdy] <;> iassumption
  iintro ⟨Hdy, Hzy, HO⟩
  ihave Hdx := (Entails.of_eq (pay_dx m c k)) $$ Hdx
  ihave Hdy := (Entails.of_eq (pay_dy m c k)) $$ Hdy
  ihave Hd := (half_join c dB k fullShare (gat m (px (py c)) k)) $$ [Hdx Hdy]
  · isplitl [Hdx] <;> iassumption
  ihave Hx := (half_join c xB k fullShare (gat m (px c) k)) $$ [Hx0 Hx1]
  · isplitl [Hx0] <;> iassumption
  ihave Hy := (half_join c yB k fullShare (gat m (py c) k)) $$ [Hy0 Hy1]
  · isplitl [Hy0] <;> iassumption
  iapply (outStart_spec c gB (Memref.isWhole_whole _) k 0 q0.o q0.h q0.hw (tileIx (quad c) k) h0 (gat m c k)) $$ [Hg Ho0 HZ0]
  · isplitl [Hg]; · iexact Hg
    isplitl [Ho0] <;> iassumption
  iintro HF0
  iapply (outStart_spec c xB (Memref.isWhole_whole _) k 1 q1.o q1.h q1.hw (tileIx (quad (px c)) k) h1 (gat m (px c) k)) $$ [Hx Ho1 HZ1]
  · isplitl [Hx]; · iexact Hx
    isplitl [Ho1] <;> iassumption
  iintro HF1
  iapply (outStart_spec c yB (Memref.isWhole_whole _) k 2 q2.o q2.h q2.hw (tileIx (quad (py c)) k) h2 (gat m (py c) k)) $$ [Hy Ho2 HZ2]
  · isplitl [Hy]; · iexact Hy
    isplitl [Ho2] <;> iassumption
  iintro HF2
  iapply (outStart_spec c dB (Memref.isWhole_whole _) k 3 q3.o q3.h q3.hw (tileIx (quad (px (py c))) k) h3 (gat m (px (py c)) k)) $$ [Hd Ho3 HZ3]
  · isplitl [Hd]; · iexact Hd
    isplitl [Ho3] <;> iassumption
  iintro HF3
  iapply (outWait_spec m c K gB (Memref.isWhole_whole _) k 0 q0.o q0.h q0.hw (tileIx (quad c) k) n) $$ [HF0 HO]
  · isplitr; · iexact Hc
    isplitl [HF0] <;> iassumption
  iintro ⟨⟨Ho0, Hg⟩, HZ0, HO⟩
  iapply (outWait_spec m c K xB (Memref.isWhole_whole _) k 1 q1.o q1.h q1.hw (tileIx (quad (px c)) k) n) $$ [HF1 HO]
  · isplitr; · iexact Hc
    isplitl [HF1] <;> iassumption
  iintro ⟨⟨Ho1, Hx⟩, HZ1, HO⟩
  iapply (outWait_spec m c K yB (Memref.isWhole_whole _) k 2 q2.o q2.h q2.hw (tileIx (quad (py c)) k) n) $$ [HF2 HO]
  · isplitr; · iexact Hc
    isplitl [HF2] <;> iassumption
  iintro ⟨⟨Ho2, Hy⟩, HZ2, HO⟩
  iapply (outWait_spec m c K dB (Memref.isWhole_whole _) k 3 q3.o q3.h q3.hw (tileIx (quad (px (py c))) k) n) $$ [HF3 HO]
  · isplitr; · iexact Hc
    isplitl [HF3] <;> iassumption
  iintro ⟨⟨Ho3, Hd⟩, HZ3, HO⟩
  iapply Hk
  isplitl [HZ0 HZ1 HZ2 HZ3]
  · isplitl [HZ0]; · iexact HZ0
    isplitl [HZ1]; · iexact HZ1
    isplitl [HZ2] <;> iassumption
  isplitr [HO]
  · unfold s2Done outFull
    isplitl [Ho0 Ho1 Ho2 Ho3]
    · isplitl [Ho0]; · iexact Ho0
      isplitl [Ho1]; · iexact Ho1
      isplitl [Ho2] <;> iassumption
    isplitl [Hg Hx Hy Hd]
    · isplitl [Hg]; · iapply (own_any c _ _) $$ Hg
      isplitl [Hx]; · iapply (own_any c _ _) $$ Hx
      isplitl [Hy]; · iapply (own_any c _ _) $$ Hy
      iapply (own_any c _ _) $$ Hd
    isplitl [Hz2]; · iexact Hz2
    isplitl [Hz3]; · iexact Hz3
    isplitl [Hzx] <;> iassumption
  iexact HO
end Cert.KernelIdeal.Proof

end
-- ==== Proof.KI.Offs.lean ====
module

public import proofs.«01_k».proof.Proof.KI.Steps

/-! The printed offsets and devices in closed form, over all sixteen devices. -/

@[expose] public section

noncomputable section

namespace Cert.KernelIdeal.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ### The offsets of the four chunks -/

/-- The printed offsets and devices of chunk 0 are the closed ones. -/
theorem ringOK0 (c : Dev nD) : RingOK c 0 (args0 c) where
  oa := (by decide +kernel : ∀ c : Dev nD, k0_off2 c = ![256 * (mz c).val, 0]) c
  ob := (by decide +kernel : ∀ c : Dev nD, k0_off3 c 0#32 = ![256 * (mz c + 3 - Fin.ofNat 4 0).val, 0]) c
  oc := (by decide +kernel : ∀ c : Dev nD, k0_off3 c 1#32 = ![256 * (mz c + 3 - Fin.ofNat 4 1).val, 0]) c
  od := (by decide +kernel : ∀ c : Dev nD, k0_off4 c = ![256 * (mz c + 3 - Fin.ofNat 4 2).val, 0]) c
  g0 := (by decide +kernel : ∀ c : Dev nD, k0_off5 c = ![(0 : Fin 4).val, 256 * (mz c + 1).val, 0]) c
  g1 := (by decide +kernel : ∀ c : Dev nD, k0_off6 c 0#32 = ![(0 : Fin 4).val, 256 * (mz c + 1 - 1).val, 0]) c
  g2 := (by decide +kernel : ∀ c : Dev nD, k0_off6 c 1#32 = ![(0 : Fin 4).val, 256 * (mz c + 1 - 2).val, 0]) c
  g3 := (by decide +kernel : ∀ c : Dev nD, k0_off6 c 2#32 = ![(0 : Fin 4).val, 256 * (mz c + 1 - 3).val, 0]) c
  r0 := (by decide +kernel : ∀ c : Dev nD, (⟨k0_dev4 c, k0_dev4_lt c⟩ : Dev nD) = right c) c
  r1 := (by decide +kernel : ∀ c : Dev nD, (⟨k0_dev5 c, k0_dev5_lt c⟩ : Dev nD) = right c) c
  r2 := (by decide +kernel : ∀ c : Dev nD, (⟨k0_dev6 c, k0_dev6_lt c⟩ : Dev nD) = right c) c
  a0 := (by decide +kernel : ∀ c : Dev nD, (⟨k0_dev7 c, k0_dev7_lt c⟩ : Dev nD) = right c) c
  a1 := (by decide +kernel : ∀ c : Dev nD, (⟨k0_dev8 c, k0_dev8_lt c⟩ : Dev nD) = right c) c
  a2 := (by decide +kernel : ∀ c : Dev nD, (⟨k0_dev9 c, k0_dev9_lt c⟩ : Dev nD) = right c) c
  dx := (by decide +kernel : ∀ c : Dev nD, (⟨k0_dev10 c, k0_dev10_lt c⟩ : Dev nD) = px c) c
  dy := (by decide +kernel : ∀ c : Dev nD, (⟨k0_dev11 c, k0_dev11_lt c⟩ : Dev nD) = py c) c

/-- The printed offsets and devices of chunk 1 are the closed ones. -/
theorem ringOK1 (c : Dev nD) : RingOK c 1 (args1 c) where
  oa := (by decide +kernel : ∀ c : Dev nD, k0_off2 c = ![256 * (mz c).val, 0]) c
  ob := (by decide +kernel : ∀ c : Dev nD, k0_off3 c 0#32 = ![256 * (mz c + 3 - Fin.ofNat 4 0).val, 0]) c
  oc := (by decide +kernel : ∀ c : Dev nD, k0_off3 c 1#32 = ![256 * (mz c + 3 - Fin.ofNat 4 1).val, 0]) c
  od := (by decide +kernel : ∀ c : Dev nD, k0_off4 c = ![256 * (mz c + 3 - Fin.ofNat 4 2).val, 0]) c
  g0 := (by decide +kernel : ∀ c : Dev nD, k0_off7 c = ![(1 : Fin 4).val, 256 * (mz c + 1).val, 0]) c
  g1 := (by decide +kernel : ∀ c : Dev nD, k0_off8 c 0#32 = ![(1 : Fin 4).val, 256 * (mz c + 1 - 1).val, 0]) c
  g2 := (by decide +kernel : ∀ c : Dev nD, k0_off8 c 1#32 = ![(1 : Fin 4).val, 256 * (mz c + 1 - 2).val, 0]) c
  g3 := (by decide +kernel : ∀ c : Dev nD, k0_off8 c 2#32 = ![(1 : Fin 4).val, 256 * (mz c + 1 - 3).val, 0]) c
  r0 := (by decide +kernel : ∀ c : Dev nD, (⟨k0_dev12 c, k0_dev12_lt c⟩ : Dev nD) = right c) c
  r1 := (by decide +kernel : ∀ c : Dev nD, (⟨k0_dev13 c, k0_dev13_lt c⟩ : Dev nD) = right c) c
  r2 := (by decide +kernel : ∀ c : Dev nD, (⟨k0_dev14 c, k0_dev14_lt c⟩ : Dev nD) = right c) c
  a0 := (by decide +kernel : ∀ c : Dev nD, (⟨k0_dev15 c, k0_dev15_lt c⟩ : Dev nD) = right c) c
  a1 := (by decide +kernel : ∀ c : Dev nD, (⟨k0_dev16 c, k0_dev16_lt c⟩ : Dev nD) = right c) c
  a2 := (by decide +kernel : ∀ c : Dev nD, (⟨k0_dev17 c, k0_dev17_lt c⟩ : Dev nD) = right c) c
  dx := (by decide +kernel : ∀ c : Dev nD, (⟨k0_dev18 c, k0_dev18_lt c⟩ : Dev nD) = px c) c
  dy := (by decide +kernel : ∀ c : Dev nD, (⟨k0_dev19 c, k0_dev19_lt c⟩ : Dev nD) = py c) c

/-- The printed offsets and devices of chunk 2 are the closed ones. -/
theorem ringOK2 (c : Dev nD) : RingOK c 2 (args2 c) where
  oa := (by decide +kernel : ∀ c : Dev nD, k0_off2 c = ![256 * (mz c).val, 0]) c
  ob := (by decide +kernel : ∀ c : Dev nD, k0_off3 c 0#32 = ![256 * (mz c + 3 - Fin.ofNat 4 0).val, 0]) c
  oc := (by decide +kernel : ∀ c : Dev nD, k0_off3 c 1#32 = ![256 * (mz c + 3 - Fin.ofNat 4 1).val, 0]) c
  od := (by decide +kernel : ∀ c : Dev nD, k0_off4 c = ![256 * (mz c + 3 - Fin.ofNat 4 2).val, 0]) c
  g0 := (by decide +kernel : ∀ c : Dev nD, k0_off9 c = ![(2 : Fin 4).val, 256 * (mz c + 1).val, 0]) c
  g1 := (by decide +kernel : ∀ c : Dev nD, k0_off10 c 0#32 = ![(2 : Fin 4).val, 256 * (mz c + 1 - 1).val, 0]) c
  g2 := (by decide +kernel : ∀ c : Dev nD, k0_off10 c 1#32 = ![(2 : Fin 4).val, 256 * (mz c + 1 - 2).val, 0]) c
  g3 := (by decide +kernel : ∀ c : Dev nD, k0_off10 c 2#32 = ![(2 : Fin 4).val, 256 * (mz c + 1 - 3).val, 0]) c
  r0 := (by decide +kernel : ∀ c : Dev nD, (⟨k0_dev22 c, k0_dev22_lt c⟩ : Dev nD) = right c) c
  r1 := (by decide +kernel : ∀ c : Dev nD, (⟨k0_dev23 c, k0_dev23_lt c⟩ : Dev nD) = right c) c
  r2 := (by decide +kernel : ∀ c : Dev nD, (⟨k0_dev24 c, k0_dev24_lt c⟩ : Dev nD) = right c) c
  a0 := (by decide +kernel : ∀ c : Dev nD, (⟨k0_dev25 c, k0_dev25_lt c⟩ : Dev nD) = right c) c
  a1 := (by decide +kernel : ∀ c : Dev nD, (⟨k0_dev26 c, k0_dev26_lt c⟩ : Dev nD) = right c) c
  a2 := (by decide +kernel : ∀ c : Dev nD, (⟨k0_dev27 c, k0_dev27_lt c⟩ : Dev nD) = right c) c
  dx := (by decide +kernel : ∀ c : Dev nD, (⟨k0_dev28 c, k0_dev28_lt c⟩ : Dev nD) = px c) c
  dy := (by decide +kernel : ∀ c : Dev nD, (⟨k0_dev29 c, k0_dev29_lt c⟩ : Dev nD) = py c) c

/-- The printed offsets and devices of chunk 3 are the closed ones. -/
theorem ringOK3 (c : Dev nD) : RingOK c 3 (args3 c) where
  oa := (by decide +kernel : ∀ c : Dev nD, k0_off2 c = ![256 * (mz c).val, 0]) c
  ob := (by decide +kernel : ∀ c : Dev nD, k0_off3 c 0#32 = ![256 * (mz c + 3 - Fin.ofNat 4 0).val, 0]) c
  oc := (by decide +kernel : ∀ c : Dev nD, k0_off3 c 1#32 = ![256 * (mz c + 3 - Fin.ofNat 4 1).val, 0]) c
  od := (by decide +kernel : ∀ c : Dev nD, k0_off4 c = ![256 * (mz c + 3 - Fin.ofNat 4 2).val, 0]) c
  g0 := (by decide +kernel : ∀ c : Dev nD, k0_off14 c = ![(3 : Fin 4).val, 256 * (mz c + 1).val, 0]) c
  g1 := (by decide +kernel : ∀ c : Dev nD, k0_off15 c 0#32 = ![(3 : Fin 4).val, 256 * (mz c + 1 - 1).val, 0]) c
  g2 := (by decide +kernel : ∀ c : Dev nD, k0_off15 c 1#32 = ![(3 : Fin 4).val, 256 * (mz c + 1 - 2).val, 0]) c
  g3 := (by decide +kernel : ∀ c : Dev nD, k0_off15 c 2#32 = ![(3 : Fin 4).val, 256 * (mz c + 1 - 3).val, 0]) c
  r0 := (by decide +kernel : ∀ c : Dev nD, (⟨k0_dev32 c, k0_dev32_lt c⟩ : Dev nD) = right c) c
  r1 := (by decide +kernel : ∀ c : Dev nD, (⟨k0_dev33 c, k0_dev33_lt c⟩ : Dev nD) = right c) c
  r2 := (by decide +kernel : ∀ c : Dev nD, (⟨k0_dev34 c, k0_dev34_lt c⟩ : Dev nD) = right c) c
  a0 := (by decide +kernel : ∀ c : Dev nD, (⟨k0_dev35 c, k0_dev35_lt c⟩ : Dev nD) = right c) c
  a1 := (by decide +kernel : ∀ c : Dev nD, (⟨k0_dev36 c, k0_dev36_lt c⟩ : Dev nD) = right c) c
  a2 := (by decide +kernel : ∀ c : Dev nD, (⟨k0_dev37 c, k0_dev37_lt c⟩ : Dev nD) = right c) c
  dx := (by decide +kernel : ∀ c : Dev nD, (⟨k0_dev38 c, k0_dev38_lt c⟩ : Dev nD) = px c) c
  dy := (by decide +kernel : ∀ c : Dev nD, (⟨k0_dev39 c, k0_dev39_lt c⟩ : Dev nD) = py c) c

/-! ### The windows of the argument and of the result -/

theorem ld_off : ∀ (c : Dev nD) (r : Fin 4), k0_off1 c (BitVec.ofNat 32 (1024 * r.val)) = ![1024 * (tileIx (quad c) r).val, 0] := by decide +kernel
theorem oo0_off : ∀ (c : Dev nD) (r : Fin 4), (oo0 c r).o = ![1024 * (tileIx (quad c) r).val, 0] := by decide +kernel
theorem oo1_off : ∀ (c : Dev nD) (r : Fin 4), (oo1 c r).o = ![1024 * (tileIx (quad (px c)) r).val, 0] := by decide +kernel
theorem oo2_off : ∀ (c : Dev nD) (r : Fin 4), (oo2 c r).o = ![1024 * (tileIx (quad (py c)) r).val, 0] := by decide +kernel
theorem oo3_off : ∀ (c : Dev nD) (r : Fin 4), (oo3 c r).o = ![1024 * (tileIx (quad (px (py c))) r).val, 0] := by decide +kernel

/-! ### The devices of the entry barrier and of the diagonal halves -/

theorem dev1_left : ∀ c : Dev nD, (⟨k0_dev1 c, k0_dev1_lt c⟩ : Dev nD) = left c := by decide +kernel
theorem dev2_px : ∀ c : Dev nD, (⟨k0_dev2 c, k0_dev2_lt c⟩ : Dev nD) = px c := by decide +kernel
theorem dev3_py : ∀ c : Dev nD, (⟨k0_dev3 c, k0_dev3_lt c⟩ : Dev nD) = py c := by decide +kernel
theorem dev20_px : ∀ c : Dev nD, (⟨k0_dev20 c, k0_dev20_lt c⟩ : Dev nD) = px c := by decide +kernel
theorem dev21_py : ∀ c : Dev nD, (⟨k0_dev21 c, k0_dev21_lt c⟩ : Dev nD) = py c := by decide +kernel
theorem dev30_px : ∀ c : Dev nD, (⟨k0_dev30 c, k0_dev30_lt c⟩ : Dev nD) = px c := by decide +kernel
theorem dev31_py : ∀ c : Dev nD, (⟨k0_dev31 c, k0_dev31_lt c⟩ : Dev nD) = py c := by decide +kernel
theorem dev40_px : ∀ c : Dev nD, (⟨k0_dev40 c, k0_dev40_lt c⟩ : Dev nD) = px c := by decide +kernel
theorem dev41_py : ∀ c : Dev nD, (⟨k0_dev41 c, k0_dev41_lt c⟩ : Dev nD) = py c := by decide +kernel
theorem dev42_px : ∀ c : Dev nD, (⟨k0_dev42 c, k0_dev42_lt c⟩ : Dev nD) = px c := by decide +kernel
theorem dev43_py : ∀ c : Dev nD, (⟨k0_dev43 c, k0_dev43_lt c⟩ : Dev nD) = py c := by decide +kernel

end Cert.KernelIdeal.Proof

end
-- ==== Proof.KI.Entry.lean ====
module

public import proofs.«01_k».proof.Proof.KI.Offs

/-! The entry barrier. A device tells the neighbour before it and both peers that it has entered, and with each signal
    hands over the places that device's copies land at; it waits for the same from three devices. -/

@[expose] public section

noncomputable section

namespace Cert.KernelIdeal.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable {α : Type} (c : Dev nD) (K : Dev nD × Option Ev → ℕ)

/-- The device told by signal `d`. -/
def told : Fin 3 → Dev nD → Dev nD := ![left, px, py]

/-- What signal `d` hands over is the signaller's own landing places. -/
theorem barPay_told (d : Fin 3) : barPay (F := F) d (told d c) = bigSep (Finset.univ.filter fun e : Ev => grp e.2 = d) fun e => land (F := F) e c := by
  unfold barPay
  refine bigSep_congr fun e he => ?_
  have h := (Finset.mem_filter.mp he).2
  subst h
  have : tgt e.2 (told (grp e.2) c) = c := by
    rcases e with ⟨k, _ | _ | _ | _ | _ | _⟩ <;> first | exact right_left c | exact px_px c | exact py_py c
  rw [this]

/-- A device's landing places are what its three signals hand over. -/
theorem land_told : (bigSep Finset.univ fun e : Ev => land (F := F) e c)
    ⊢ iprop(barPay (F := F) 0 (left c) ∗ barPay (F := F) 1 (px c) ∗ barPay (F := F) 2 (py c)) := by
  refine Entails.of_eq ?_
  rw [bigSep_fiberwise Finset.univ (fun e : Ev => grp e.2), show Finset.univ.image (fun e : Ev => grp e.2) = Finset.univ from by decide,
    bigSep_univ_eq_bigSepL [0, 1, 2] (by decide) (by decide)]
  exact (congrArg₂ BIBase.sep (barPay_told c 0).symm (congrArg₂ BIBase.sep (barPay_told c 1).symm (barPay_told c 2).symm))

/-- What a device needs for the barrier. -/
def entryIn : sProp 𝕄 :=
  iprop((dutyTok ER (barCell (left c)) 0 0 ∗ dutyTok ER (barCell (px c)) 0 1 ∗ dutyTok ER (barCell (py c)) 0 2)
    ∗ atPos ER (barCell c) 0 ∅ 0 ∗ cred (tallyAt (barCell c) () 3))

set_option maxRecDepth 20000 in
theorem entry_spec (d1 d2 d3 : Dev nD) (h1 : d1 = left c) (h2 : d2 = px c) (h3 : d3 = py c) (g : PUnit → KProg F α) (Q : α → sProp 𝕄) :
    iprop(ctx m K ∗ entryIn (F := F) c ∗ (bigSep Finset.univ fun e : Ev => land (F := F) e c) ∗ (∃ V, owes (c : Thread nD τ) (O₀ c) V))
      ⊢ iprop((((bigSep Finset.univ fun e : Ev => land (F := F) e (tgt e.2 c)) ∗ semVal (barCell c) 0 ∗ owesE c 0) -∗ W c (g ⟨⟩) Q)
          -∗ W c (entryP d1 d2 d3 >>= g) Q) := by
  subst h1 h2 h3
  unfold entryP entryIn
  simp only [semSignalWord, semWaitWord, Prog.lift, Prog.bind_op, Prog.bind_ret, Prog.pure_eq_ret, bind_assoc]
  iintro ⟨#Hc, ⟨⟨Ht0, Ht1, Ht2⟩, Hat, Hcr⟩, Hl, ⟨%V, HO⟩⟩ Hk
  ihave Hl := (land_told c) $$ Hl
  icases Hl with ⟨Hl0, Hl1, Hl2⟩
  unfold O₀
  iapply (Rounds.wp_signal 𝒱₀ ER (Rd m) (c : Thread nD τ) none (dst := (left c : Thread nD τ)) (κ := K (left c, none))
      (d := 0) (by rw [duties_bar]; exact Finset.mem_univ _) ((amount_bar m (left c) 0).trans (by decide)) ()
      (owe c 0 + tallyAt (barCell (py c)) () 1 + tallyAt (barCell (px c)) () 1) rfl) $$ [HO Ht0 Hl0]
  · isplitr; · iapply (ctx_inv m K (left c, none)) $$ Hc
    isplitl [HO]; · iexact HO
    isplitl [Ht0]; · iexact Ht0
    isplitl [Hl0]; · rw [payload_bar]; iexact Hl0
    iapply (ctx_reached m K (left c, none)) $$ Hc
  iintro HO
  iapply (Rounds.wp_signal 𝒱₀ ER (Rd m) (c : Thread nD τ) none (dst := (px c : Thread nD τ)) (κ := K (px c, none))
      (d := 1) (by rw [duties_bar]; exact Finset.mem_univ _) ((amount_bar m (px c) 1).trans (by decide)) ()
      (owe c 0 + tallyAt (barCell (py c)) () 1) rfl) $$ [HO Ht1 Hl1]
  · isplitr; · iapply (ctx_inv m K (px c, none)) $$ Hc
    isplitl [HO]; · iexact HO
    isplitl [Ht1]; · iexact Ht1
    isplitl [Hl1]; · rw [payload_bar]; iexact Hl1
    iapply (ctx_reached m K (px c, none)) $$ Hc
  iintro HO
  iapply (Rounds.wp_signal 𝒱₀ ER (Rd m) (c : Thread nD τ) none (dst := (py c : Thread nD τ)) (κ := K (py c, none))
      (d := 2) (by rw [duties_bar]; exact Finset.mem_univ _) ((amount_bar m (py c) 2).trans (by decide)) ()
      (owe c 0) rfl) $$ [HO Ht2 Hl2]
  · isplitr; · iapply (ctx_inv m K (py c, none)) $$ Hc
    isplitl [HO]; · iexact HO
    isplitl [Ht2]; · iexact Ht2
    isplitl [Hl2]; · rw [payload_bar]; iexact Hl2
    iapply (ctx_reached m K (py c, none)) $$ Hc
  iintro HO
  iapply (Rounds.wp_wait_rest_token 𝒱₀ ER (Rd m) (c : Thread nD τ) none (κ := K (c, none))
      (wpE_semWait_eq 𝒱₀ (c : Thread nD τ) none Set.univ) (Set.mem_univ _) () (O := owe c 0) (W := V) (R := 0) (m := 0) (T := ∅)
      (by rw [expect_bar]; decide)) $$ [Hcr HO Hat]
  · isplitr; · iapply (ctx_inv m K (c, none)) $$ Hc
    isplitl [Hcr]; · iexact Hcr
    isplitl [HO]; · iexact HO
    isplitr; · iapply ((ctx_lev m K).trans (mayWait_of c (.reg barS) 0 (lt_of_eq_of_lt (lv_bar c) (by decide)))) $$ Hc
    iexact Hat
  iintro ⟨HO, Hat, -, Hpay⟩
  ihave Hp := (Entails.of_eq (rest_bar m c)) $$ Hpay
  imod (Rounds.cell_close ER (Rd m) (Set.mem_univ (K (c, none))) (fun h => h) (R := 0 + 1) (duties_later m (barCell c))) $$ [Hat] with Hz
  · isplitr; · iapply (ctx_inv m K (c, none)) $$ Hc
    iexact Hat
  iapply Hk
  isplitl [Hp]; · iexact Hp
  isplitl [Hz]; · iexact Hz
  unfold owesE
  iexists _; iexact HO

end Cert.KernelIdeal.Proof

end
-- ==== Proof.KI.Main.lean ====
module

public import proofs.«01_k».proof.Proof.KI.Entry

/-! The whole kernel on one device, after the entry barrier: the four chunks one after another, each load started ahead
    of its use, the halves of the diagonal chunk and the results one chunk behind. -/

@[expose] public section

noncomputable section

namespace Cert.KernelIdeal.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable {α : Type} (c : Dev nD) (K : Dev nD × Option Ev → ℕ)

/-- What a device holds for chunk `k` before the loop. -/
def chunkIn (k : Fin 4) : sProp 𝕄 :=
  iprop(ownM c (argM (tileIx (quad c) k)) (chunkv m c k) ∗ ringIn (F := F) c k ∗ s1In (F := F) c k ∗ s2In (F := F) c k)
/-- What it holds for chunk `k` at the end. -/
def chunkDone (k : Fin 4) : sProp 𝕄 :=
  iprop(ownM c (argM (tileIx (quad c) k)) (chunkv m c k) ∗ ringDone (F := F) c k ∗ s1Done (F := F) c k ∗ s2Done m c k)
/-- What serves every chunk: the sending ends of both rings, the result copies, and the two staging slots with their semaphores. -/
def shared : sProp 𝕄 :=
  iprop(hopZ (F := F) c ∗ outZ (F := F) c ∗ (zero c (ldSem 0) ∗ anyM (F := F) c (xvM 0)) ∗ (zero c (ldSem 1) ∗ anyM (F := F) c (xvM 1)))

/-- The loop body of the kernel, after the barrier. -/
theorem loop_spec (g : PUnit → KProg F α) (Q : α → sProp 𝕄) :
    iprop(ctx m K ∗ shared (F := F) c ∗ (chunkIn m c 0 ∗ chunkIn m c 1 ∗ chunkIn m c 2 ∗ chunkIn m c 3) ∗ owesE c 0)
      ⊢ iprop(((shared (F := F) c ∗ (chunkDone m c 0 ∗ chunkDone m c 1 ∗ chunkDone m c 2 ∗ chunkDone m c 3) ∗ owesE c 40) -∗ W c (g ⟨⟩) Q)
          -∗ W c (loopP c >>= g) Q) := by
  unfold loopP shared chunkIn
  simp only [bind_assoc]
  iintro ⟨#Hc, ⟨HR, HZ, ⟨Hl0, Hx0⟩, ⟨Hl1, Hx1⟩⟩, ⟨⟨Ha0, Hr0, Hs0, Ht0⟩, ⟨Ha1, Hr1, Hs1, Ht1⟩, ⟨Ha2, Hr2, Hs2, Ht2⟩, ⟨Ha3, Hr3, Hs3, Ht3⟩⟩, HO⟩ Hk
  -- the first load, its wait, the second load
  iapply (ldStart_spec c 0 _ _ (tileIx (quad c) 0) (ld_off c 0) (chunkv m c 0)) $$ [Ha0 Hx0 Hl0]
  · isplitl [Ha0]; · iexact Ha0
    isplitl [Hx0] <;> iassumption
  iintro HF
  iapply (ldWait_spec m c K 0 _ _ 0) $$ [HF HO]
  · isplitr; · iexact Hc
    isplitl [HF]; · iexact HF
    iexact HO
  iintro ⟨⟨Hx0, Ha0⟩, Hl0, HO⟩
  iapply (ldStart_spec c 1 _ _ (tileIx (quad c) 1) (ld_off c 1) (chunkv m c 1)) $$ [Ha1 Hx1 Hl1]
  · isplitl [Ha1]; · iexact Ha1
    isplitl [Hx1] <;> iassumption
  iintro HF
  -- chunk 0
  iapply (ring_spec m c K 0 0 (args0 c) (ringOK0 c)) $$ [HR Hx0 Hr0 HO]
  · isplitr; · iexact Hc
    isplitl [HR]; · iexact HR
    isplitl [Hx0]; · iexact Hx0
    isplitl [Hr0]; · iexact Hr0
    iexact HO
  iintro ⟨HR, Hx0, Hm0, Hr0, HO⟩
  ihave Hx0 := (own_any c _ _) $$ Hx0
  iapply (ldWait_spec m c K 1 _ _ 8) $$ [HF HO]
  · isplitr; · iexact Hc
    isplitl [HF]; · iexact HF
    iexact HO
  iintro ⟨⟨Hx1, Ha1⟩, Hl1, HO⟩
  iapply (ldStart_spec c 0 _ _ (tileIx (quad c) 2) (ld_off c 2) (chunkv m c 2)) $$ [Ha2 Hx0 Hl0]
  · isplitl [Ha2]; · iexact Ha2
    isplitl [Hx0] <;> iassumption
  iintro HF
  -- chunk 1
  iapply (ring_spec m c K 1 1 (args1 c) (ringOK1 c)) $$ [HR Hx1 Hr1 HO]
  · isplitr; · iexact Hc
    isplitl [HR]; · iexact HR
    isplitl [Hx1]; · iexact Hx1
    isplitl [Hr1]; · iexact Hr1
    iexact HO
  iintro ⟨HR, Hx1, Hm1, Hr1, HO⟩
  ihave Hx1 := (own_any c _ _) $$ Hx1
  iapply (s1_spec m c K 0 _ _ (dev20_px c) (dev21_py c)) $$ [Hm0 Hs0 HO]
  · isplitr; · iexact Hc
    isplitl [Hm0]; · iexact Hm0
    isplitl [Hs0]; · iexact Hs0
    iexact HO
  iintro ⟨Hm0, Hs0, HO⟩
  iapply (ldWait_spec m c K 0 _ _ 18) $$ [HF HO]
  · isplitr; · iexact Hc
    isplitl [HF]; · iexact HF
    iexact HO
  iintro ⟨⟨Hx0, Ha2⟩, Hl0, HO⟩
  iapply (ldStart_spec c 1 _ _ (tileIx (quad c) 3) (ld_off c 3) (chunkv m c 3)) $$ [Ha3 Hx1 Hl1]
  · isplitl [Ha3]; · iexact Ha3
    isplitl [Hx1] <;> iassumption
  iintro HF
  -- chunk 2
  iapply (ring_spec m c K 2 0 (args2 c) (ringOK2 c)) $$ [HR Hx0 Hr2 HO]
  · isplitr; · iexact Hc
    isplitl [HR]; · iexact HR
    isplitl [Hx0]; · iexact Hx0
    isplitl [Hr2]; · iexact Hr2
    iexact HO
  iintro ⟨HR, Hx0, Hm2, Hr2, HO⟩
  ihave Hx0 := (own_any c _ _) $$ Hx0
  iapply (s1_spec m c K 1 _ _ (dev30_px c) (dev31_py c)) $$ [Hm1 Hs1 HO]
  · isplitr; · iexact Hc
    isplitl [Hm1]; · iexact Hm1
    isplitl [Hs1]; · iexact Hs1
    iexact HO
  iintro ⟨Hm1, Hs1, HO⟩
  iapply (s2_spec m c K 0 _ _ _ _ (oo0_off c 0) (oo1_off c 0) (oo2_off c 0) (oo3_off c 0) 28 (by decide)) $$ [HZ Hm0 Ht0 HO]
  · isplitr; · iexact Hc
    isplitl [HZ]; · iexact HZ
    isplitl [Hm0]; · iexact Hm0
    isplitl [Ht0]; · iexact Ht0
    iexact HO
  iintro ⟨HZ, Ht0, HO⟩
  iapply (ldWait_spec m c K 1 _ _ 28) $$ [HF HO]
  · isplitr; · iexact Hc
    isplitl [HF]; · iexact HF
    iexact HO
  iintro ⟨⟨Hx1, Ha3⟩, Hl1, HO⟩
  -- chunk 3
  iapply (ring_spec m c K 3 1 (args3 c) (ringOK3 c)) $$ [HR Hx1 Hr3 HO]
  · isplitr; · iexact Hc
    isplitl [HR]; · iexact HR
    isplitl [Hx1]; · iexact Hx1
    isplitl [Hr3]; · iexact Hr3
    iexact HO
  iintro ⟨HR, Hx1, Hm3, Hr3, HO⟩
  ihave Hx1 := (own_any c _ _) $$ Hx1
  iapply (s1_spec m c K 2 _ _ (dev40_px c) (dev41_py c)) $$ [Hm2 Hs2 HO]
  · isplitr; · iexact Hc
    isplitl [Hm2]; · iexact Hm2
    isplitl [Hs2]; · iexact Hs2
    iexact HO
  iintro ⟨Hm2, Hs2, HO⟩
  iapply (s2_spec m c K 1 _ _ _ _ (oo0_off c 1) (oo1_off c 1) (oo2_off c 1) (oo3_off c 1) 38 (by decide)) $$ [HZ Hm1 Ht1 HO]
  · isplitr; · iexact Hc
    isplitl [HZ]; · iexact HZ
    isplitl [Hm1]; · iexact Hm1
    isplitl [Ht1]; · iexact Ht1
    iexact HO
  iintro ⟨HZ, Ht1, HO⟩
  iapply (s1_spec m c K 3 _ _ (dev42_px c) (dev43_py c)) $$ [Hm3 Hs3 HO]
  · isplitr; · iexact Hc
    isplitl [Hm3]; · iexact Hm3
    isplitl [Hs3]; · iexact Hs3
    iexact HO
  iintro ⟨Hm3, Hs3, HO⟩
  iapply (s2_spec m c K 2 _ _ _ _ (oo0_off c 2) (oo1_off c 2) (oo2_off c 2) (oo3_off c 2) 40 (by decide)) $$ [HZ Hm2 Ht2 HO]
  · isplitr; · iexact Hc
    isplitl [HZ]; · iexact HZ
    isplitl [Hm2]; · iexact Hm2
    isplitl [Ht2]; · iexact Ht2
    iexact HO
  iintro ⟨HZ, Ht2, HO⟩
  iapply (s2_spec m c K 3 _ _ _ _ (oo0_off c 3) (oo1_off c 3) (oo2_off c 3) (oo3_off c 3) 40 (by decide)) $$ [HZ Hm3 Ht3 HO]
  · isplitr; · iexact Hc
    isplitl [HZ]; · iexact HZ
    isplitl [Hm3]; · iexact Hm3
    isplitl [Ht3]; · iexact Ht3
    iexact HO
  iintro ⟨HZ, Ht3, HO⟩
  iapply Hk
  unfold chunkDone
  isplitl [HR HZ Hl0 Hx0 Hl1 Hx1]
  · isplitl [HR]; · iexact HR
    isplitl [HZ]; · iexact HZ
    isplitl [Hl0 Hx0]
    · isplitl [Hl0] <;> iassumption
    isplitl [Hl1] <;> iassumption
  isplitr [HO]
  · isplitl [Ha0 Hr0 Hs0 Ht0]
    · isplitl [Ha0]; · iexact Ha0
      isplitl [Hr0]; · iexact Hr0
      isplitl [Hs0] <;> iassumption
    isplitl [Ha1 Hr1 Hs1 Ht1]
    · isplitl [Ha1]; · iexact Ha1
      isplitl [Hr1]; · iexact Hr1
      isplitl [Hs1] <;> iassumption
    isplitl [Ha2 Hr2 Hs2 Ht2]
    · isplitl [Ha2]; · iexact Ha2
      isplitl [Hr2]; · iexact Hr2
      isplitl [Hs2] <;> iassumption
    isplitl [Ha3]; · iexact Ha3
    isplitl [Hr3]; · iexact Hr3
    isplitl [Hs3] <;> iassumption
  iexact HO

end Cert.KernelIdeal.Proof

end
-- ==== Proof.KI.Pack.lean ====
module

public import proofs.«01_k».proof.Proof.KI.Main

/-! What a device is given at launch, sorted by chunk, and put together again at the end. -/

@[expose] public section

noncomputable section

namespace Cert.KernelIdeal.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (c : Dev nD)

/-! ### Finite separating conjunctions, written out -/

theorem bigSep_four (Φ : Fin 4 → sProp 𝕄) : bigSep Finset.univ Φ = iprop(Φ 0 ∗ Φ 1 ∗ Φ 2 ∗ Φ 3) :=
  bigSep_univ_eq_bigSepL [0, 1, 2, 3] (by decide) (by decide) Φ
theorem bigSep_three (Φ : Fin 3 → sProp 𝕄) : bigSep Finset.univ Φ = iprop(Φ 0 ∗ Φ 1 ∗ Φ 2) :=
  bigSep_univ_eq_bigSepL [0, 1, 2] (by decide) (by decide) Φ
theorem bigSep_two (Φ : Fin 2 → sProp 𝕄) : bigSep Finset.univ Φ = iprop(Φ 0 ∗ Φ 1) :=
  bigSep_univ_eq_bigSepL [0, 1] (by decide) (by decide) Φ
theorem bigSep_kind (Φ : Kind → sProp 𝕄) : bigSep Finset.univ Φ
    = iprop(Φ (.rs 0) ∗ Φ (.rs 1) ∗ Φ (.rs 2) ∗ Φ (.ag 0) ∗ Φ (.ag 1) ∗ Φ (.ag 2) ∗ Φ .x ∗ Φ .y ∗ Φ .dx ∗ Φ .dy) :=
  bigSep_univ_eq_bigSepL ([.rs 0, .rs 1, .rs 2, .ag 0, .ag 1, .ag 2, .x, .y, .dx, .dy] : List Kind) (by decide) (by decide) Φ
theorem bigSep_ev (Φ : Ev → sProp 𝕄) : bigSep Finset.univ Φ = bigSep Finset.univ fun k : Fin 4 =>
    iprop(Φ (k, .rs 0) ∗ Φ (k, .rs 1) ∗ Φ (k, .rs 2) ∗ Φ (k, .ag 0) ∗ Φ (k, .ag 1) ∗ Φ (k, .ag 2) ∗ Φ (k, .x) ∗ Φ (k, .y) ∗ Φ (k, .dx) ∗ Φ (k, .dy)) := by
  rw [bigSep_univ_prod]
  exact bigSep_congr fun k _ => bigSep_kind fun e => Φ (k, e)

/-! ### The landing places -/

/-- A chunk's two halves, at any contents. -/
theorem any_halve (k : Fin 4) : anyM (F := F) c (chunkM dB k) ⊢ iprop(land (F := F) (k, .dx) c ∗ land (F := F) (k, .dy) c) := by
  unfold land anyM
  iintro ⟨%X, H⟩
  ihave H := (half_split c dB k fullShare X) $$ H
  icases H with ⟨H0, H1⟩
  isplitl [H0]
  · iexists _; iexact H0
  · iexists _; iexact H1

/-- The slots of chunk `k` that stay with the device. -/
def keep (k : Fin 4) : sProp 𝕄 := iprop(anyM (F := F) c (slotM rsB k 0) ∗ anyM (F := F) c (slotM agB k 0) ∗ anyM (F := F) c (chunkM gB k))

theorem lands_chunk (k : Fin 4) :
    iprop((bigSep Finset.univ fun s => anyM (F := F) c (slotM rsB k s)) ∗ (bigSep Finset.univ fun s => anyM (F := F) c (slotM agB k s))
        ∗ anyM (F := F) c (chunkM gB k) ∗ anyM (F := F) c (chunkM xB k) ∗ anyM (F := F) c (chunkM yB k) ∗ anyM (F := F) c (chunkM dB k))
      ⊢ iprop(keep (F := F) c k ∗ (land (F := F) (k, .rs 0) c ∗ land (F := F) (k, .rs 1) c ∗ land (F := F) (k, .rs 2) c
          ∗ land (F := F) (k, .ag 0) c ∗ land (F := F) (k, .ag 1) c ∗ land (F := F) (k, .ag 2) c
          ∗ land (F := F) (k, .x) c ∗ land (F := F) (k, .y) c ∗ land (F := F) (k, .dx) c ∗ land (F := F) (k, .dy) c)) := by
  rw [bigSep_four, bigSep_four]
  show _ ⊢ iprop(keep (F := F) c k ∗ (anyM (F := F) c (slotM rsB k 1) ∗ anyM (F := F) c (slotM rsB k 2) ∗ anyM (F := F) c (slotM rsB k 3)
    ∗ anyM (F := F) c (slotM agB k 1) ∗ anyM (F := F) c (slotM agB k 2) ∗ anyM (F := F) c (slotM agB k 3)
    ∗ anyM (F := F) c (chunkM xB k) ∗ anyM (F := F) c (chunkM yB k) ∗ land (F := F) (k, .dx) c ∗ land (F := F) (k, .dy) c))
  unfold keep
  iintro ⟨⟨Hr0, Hr1, Hr2, Hr3⟩, ⟨Ha0, Ha1, Ha2, Ha3⟩, Hg, Hx, Hy, Hd⟩
  ihave Hd := (any_halve c k) $$ Hd
  icases Hd with ⟨Hdx, Hdy⟩
  isplitl [Hr0 Ha0 Hg]
  · isplitl [Hr0]; · iexact Hr0
    isplitl [Ha0] <;> iassumption
  isplitl [Hr1]; · iexact Hr1
  isplitl [Hr2]; · iexact Hr2
  isplitl [Hr3]; · iexact Hr3
  isplitl [Ha1]; · iexact Ha1
  isplitl [Ha2]; · iexact Ha2
  isplitl [Ha3]; · iexact Ha3
  isplitl [Hx]; · iexact Hx
  isplitl [Hy]; · iexact Hy
  isplitl [Hdx]; · iexact Hdx
  iexact Hdy

/-- The six buffers of blocks and chunks. -/
def bufs : sProp 𝕄 :=
  iprop(anyM (F := F) c rsB ∗ anyM (F := F) c agB ∗ anyM (F := F) c gB ∗ anyM (F := F) c xB ∗ anyM (F := F) c yB ∗ anyM (F := F) c dB)

/-- They are the landing places and the slots that stay. -/
theorem bufs_split : bufs (F := F) c ⊢ iprop((bigSep Finset.univ fun k => keep (F := F) c k) ∗ bigSep Finset.univ fun e : Ev => land (F := F) e c) := by
  rw [bigSep_ev, ← bigSep_sep']
  refine BIBase.Entails.trans ?_ (bigSep_mono fun k _ => lands_chunk c k)
  simp only [bigSep_sep']
  unfold bufs
  iintro ⟨H1, H2, H3, H4, H5, H6⟩
  isplitl [H1]; · iapply ((slots_split c rsB).trans (Entails.of_eq (bigSep_univ_prod _))) $$ H1
  isplitl [H2]; · iapply ((slots_split c agB).trans (Entails.of_eq (bigSep_univ_prod _))) $$ H2
  isplitl [H3]; · iapply (chunks_split c gB) $$ H3
  isplitl [H4]; · iapply (chunks_split c xB) $$ H4
  isplitl [H5]; · iapply (chunks_split c yB) $$ H5
  iapply (chunks_split c dB) $$ H6

/-! ### The windows of argument and result -/

/-- The four devices of a device's `x`, `y` square. -/
def nb (q : Fin 4) : Dev nD := (![c, px c, py c, px (py c)] : Fin 4 → Dev nD) q

/-- Which window of 1024 rows holds chunk `k` of device `q` of the square. -/
def tileOf (p : Fin 4 × Fin 4) : Fin 16 := tileIx (quad (nb c p.2)) p.1
theorem tileOf_inj : ∀ c, Function.Injective (tileOf c) := by decide +kernel
theorem tileOf_bij : Function.Bijective (tileOf c) := by
  rw [Fintype.bijective_iff_injective_and_card]
  exact ⟨tileOf_inj c, rfl⟩

theorem bigSep_tiles (Φ : Fin 16 → sProp 𝕄) : bigSep Finset.univ Φ = bigSep Finset.univ fun k : Fin 4 =>
    iprop(Φ (tileIx (quad c) k) ∗ Φ (tileIx (quad (px c)) k) ∗ Φ (tileIx (quad (py c)) k) ∗ Φ (tileIx (quad (px (py c))) k)) := by
  rw [bigSep_univ_equiv (Equiv.ofBijective (tileOf c) (tileOf_bij c)) Φ, bigSep_univ_prod]
  exact bigSep_congr fun k _ => bigSep_four fun q => Φ (tileOf c (k, q))

/-- The argument, whole. -/
abbrev argAll : Memref sig .tc .hbm S16384x1024 .f32 := Memref.whole main_arg0
/-- The result, whole. -/
abbrev outAll : Memref sig .tc .hbm S16384x1024 .bf16 := Memref.whole main_v1

/-- The windows of the argument the device does not read, of chunk `k`. -/
def argRest (k : Fin 4) : sProp 𝕄 :=
  iprop(ownM c (argM (tileIx (quad (px c)) k)) (fun j => argv m c ((rowR (tileIx (quad (px c)) k)).emb j))
    ∗ ownM c (argM (tileIx (quad (py c)) k)) (fun j => argv m c ((rowR (tileIx (quad (py c)) k)).emb j))
    ∗ ownM c (argM (tileIx (quad (px (py c))) k)) (fun j => argv m c ((rowR (tileIx (quad (px (py c))) k)).emb j)))

theorem arg_split : ownM c argAll (argv m c)
    ⊢ bigSep Finset.univ fun k => iprop(ownM c (argM (tileIx (quad c) k)) (chunkv m c k) ∗ argRest m c k) := by
  refine BIBase.Entails.trans (owns_rects (c : Thread nD τ) argAll fullShare rowR (fun _ _ => rfl) rowR_disj rowR_cover (argv m c)) ?_
  exact Entails.of_eq (bigSep_tiles c _)
theorem arg_join : (bigSep Finset.univ fun k => iprop(ownM c (argM (tileIx (quad c) k)) (chunkv m c k) ∗ argRest m c k))
    ⊢ ownM c argAll (argv m c) := by
  refine BIBase.Entails.trans ?_ (owns_of_rects (c : Thread nD τ) argAll fullShare rowR (fun _ _ => rfl) rowR_disj rowR_cover (argv m c))
  exact Entails.of_eq (bigSep_tiles c fun t => ownM c (argM t) (fun j => argv m c ((rowR t).emb j))).symm

theorem out_split : anyM (F := F) c outAll ⊢ bigSep Finset.univ fun k => outAny (F := F) c k := by
  refine BIBase.Entails.trans (any_split c outAll rowR (fun _ _ => rfl) rowR_disj rowR_cover) ?_
  exact Entails.of_eq (bigSep_tiles c fun t => anyM (F := F) c (outM t))

set_option backward.proofsInPublic true in
/-- The device of the square `q` at the place of `c` around `z`. -/
def sqdev (q : Fin 4) : Dev nD := ⟨4 * q.val + c.val % 4, by have := q.isLt; simp only [nD]; omega⟩
/-- A row of the result as a row of its chunk. -/
def rowOf (i : S16384x1024.Idx) : S1024x1024.Idx := fun a => match a with
  | ⟨0, _⟩ => ⟨(i 0).val % 1024, Nat.mod_lt _ (by decide)⟩
  | ⟨1, _⟩ => ⟨(i 1).val, (i 1).isLt⟩
/-- The chunk a row of the result lies in, and the square it belongs to. -/
def chunkOf (i : S16384x1024.Idx) : Fin 4 := ⟨(i 0).val / 1024 % 4, Nat.mod_lt _ (by decide)⟩
def quadOf (i : S16384x1024.Idx) : Fin 4 := ⟨(i 0).val / 4096, by have : (i 0).val < 16384 := (i 0).isLt; omega⟩
/-- The result of device `c`. -/
def Out : FVec F S16384x1024 .bf16 := fun i => gat m (sqdev c (quadOf i)) (chunkOf i) (rowOf i)

theorem row_emb0 (t : Fin 16) (j : S1024x1024.Idx) : ((rowR t).emb j 0).val = 1024 * t.val + (j 0).val := by
  show 1024 * t.val + 1 * (j 0).val = _
  omega
theorem row_emb1 (t : Fin 16) (j : S1024x1024.Idx) : ((rowR t).emb j 1).val = (j 1).val := by
  show 0 + 1 * (j 1).val = _
  omega

theorem rowOf_emb (q k : Fin 4) (j : S1024x1024.Idx) : rowOf ((rowR (tileIx q k)).emb j) = j := by
  have h0 := row_emb0 (tileIx q k) j
  have h1 := row_emb1 (tileIx q k) j
  have : (j 0).val < 1024 := (j 0).isLt
  funext a; fin_cases a
  · apply Fin.ext; show ((rowR (tileIx q k)).emb j 0).val % 1024 = (j 0).val; omega
  · apply Fin.ext; exact h1
theorem chunkOf_emb (q k : Fin 4) (j : S1024x1024.Idx) : chunkOf ((rowR (tileIx q k)).emb j) = k := by
  have h0 := row_emb0 (tileIx q k) j
  have : (j 0).val < 1024 := (j 0).isLt
  have := k.isLt
  apply Fin.ext; show ((rowR (tileIx q k)).emb j 0).val / 1024 % 4 = k.val
  rw [h0]; show (1024 * (4 * q.val + k.val) + (j 0).val) / 1024 % 4 = k.val; omega
theorem quadOf_emb (q k : Fin 4) (j : S1024x1024.Idx) : quadOf ((rowR (tileIx q k)).emb j) = q := by
  have h0 := row_emb0 (tileIx q k) j
  have : (j 0).val < 1024 := (j 0).isLt
  have := k.isLt
  apply Fin.ext; show ((rowR (tileIx q k)).emb j 0).val / 4096 = q.val
  rw [h0]; show (1024 * (4 * q.val + k.val) + (j 0).val) / 4096 = q.val; omega

theorem out_tile (d : Dev nD) (hd : sqdev c (quad d) = d) (k : Fin 4) :
    (fun j => Out m c ((rowR (tileIx (quad d) k)).emb j)) = gat m d k := by
  funext j
  unfold Out
  rw [rowOf_emb, chunkOf_emb, quadOf_emb, hd]

theorem sq_self : ∀ c : Dev nD, sqdev c (quad c) = c := by decide +kernel
theorem sq_px : ∀ c : Dev nD, sqdev c (quad (px c)) = px c := by decide +kernel
theorem sq_py : ∀ c : Dev nD, sqdev c (quad (py c)) = py c := by decide +kernel
theorem sq_pxpy : ∀ c : Dev nD, sqdev c (quad (px (py c))) = px (py c) := by decide +kernel

theorem out_join : (bigSep Finset.univ fun k => outFull m c k) ⊢ ownM c outAll (Out m c) := by
  refine BIBase.Entails.trans ?_ (owns_of_rects (Val := Elt F) (e := .bf16) (c : Thread nD τ) outAll fullShare rowR (fun _ _ => rfl) rowR_disj rowR_cover (Out m c))
  refine BIBase.Entails.trans ?_ (Entails.of_eq (bigSep_tiles c fun t => ownM c (outM t) (fun j => Out m c ((rowR t).emb j))).symm)
  refine Entails.of_eq (bigSep_congr fun k _ => ?_)
  unfold outFull
  exact congrArg₂ BIBase.sep (congrArg (ownM c (outM (tileIx (quad c) k))) (out_tile m c c (sq_self c) k).symm)
    (congrArg₂ BIBase.sep (congrArg (ownM c (outM (tileIx (quad (px c)) k))) (out_tile m c (px c) (sq_px c) k).symm)
      (congrArg₂ BIBase.sep (congrArg (ownM c (outM (tileIx (quad (py c)) k))) (out_tile m c (py c) (sq_py c) k).symm)
        (congrArg (ownM c (outM (tileIx (quad (px (py c))) k))) (out_tile m c (px (py c)) (sq_pxpy c) k).symm)))

/-! ### The semaphores a device waits on for its own copies -/

/-- The sending ends of chunk `k`'s copies to both peers. -/
def p2Z (k : Fin 4) : sProp 𝕄 := iprop(zero c (p2Snd k 0) ∗ zero c (p2Snd k 1) ∗ zero c (p2Snd k 2) ∗ zero c (p2Snd k 3))

theorem semL_split : (bigSep Finset.univ fun l : LSem => zero (F := F) c (semL l))
    = iprop((zero c (ldSem 0) ∗ zero c (ldSem 1)) ∗ outZ (F := F) c ∗ (zero c (rsSnd 0) ∗ zero c (rsSnd 1) ∗ zero c (rsSnd 2))
        ∗ (zero c (agSnd 0) ∗ zero c (agSnd 1) ∗ zero c (agSnd 2)) ∗ bigSep Finset.univ fun k => p2Z (F := F) c k) := by
  rw [bigSep_univ_sum, bigSep_univ_sum, bigSep_univ_sum, bigSep_univ_sum, bigSep_two, bigSep_four, bigSep_three, bigSep_three, bigSep_univ_prod,
    bigSep_congr (s := Finset.univ) (fun (k : Fin 4) _ => bigSep_four (F := F) fun s => zero c (semL (.inr (.inr (.inr (.inr (k, s)))))))]
  rfl

end Cert.KernelIdeal.Proof

end
-- ==== Proof.KI.Body.lean ====
module

public import proofs.«01_k».proof.Proof.KI.Pack

/-! One device's whole run: from what it is given at launch to its result, with every semaphore back at zero. -/

@[expose] public section

noncomputable section

namespace Cert.KernelIdeal.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (c : Dev nD) (K : Dev nD × Option Ev → ℕ)

/-- The ten copies of chunk `k`, of any family over events. -/
def tens (Φ : Ev → sProp 𝕄) (k : Fin 4) : sProp 𝕄 :=
  iprop(Φ (k, .rs 0) ∗ Φ (k, .rs 1) ∗ Φ (k, .rs 2) ∗ Φ (k, .ag 0) ∗ Φ (k, .ag 1) ∗ Φ (k, .ag 2) ∗ Φ (k, .x) ∗ Φ (k, .y) ∗ Φ (k, .dx) ∗ Φ (k, .dy))

theorem bigSep_tens (Φ : Ev → sProp 𝕄) : bigSep Finset.univ Φ = bigSep Finset.univ fun k => tens Φ k := bigSep_ev Φ

theorem in_chunk (k : Fin 4) :
    iprop(keep (F := F) c k ∗ tens (snd (F := F) c) k ∗ tens (rcv (F := F) c) k ∗ p2Z (F := F) c k
        ∗ (ownM c (argM (tileIx (quad c) k)) (chunkv m c k) ∗ argRest m c k) ∗ outAny (F := F) c k)
      ⊢ iprop(chunkIn m c k ∗ argRest m c k) := by
  unfold tens keep p2Z chunkIn ringIn s1In s2In
  iintro ⟨⟨Hk1, Hk2, Hk3⟩, ⟨Hs1, Hs2, Hs3, Hs4, Hs5, Hs6, Hs7, Hs8, Hs9, Hs10⟩, ⟨Hr1, Hr2, Hr3, Hr4, Hr5, Hr6, Hr7, Hr8, Hr9, Hr10⟩,
    ⟨Hz0, Hz1, Hz2, Hz3⟩, ⟨Ha, Hrest⟩, Ho⟩
  isplitr [Hrest]
  · isplitl [Ha]; · iexact Ha
    isplitl [Hk1 Hk2 Hk3 Hs1 Hs2 Hs3 Hs4 Hs5 Hs6 Hs7 Hs8 Hr1 Hr2 Hr3 Hr4 Hr5 Hr6 Hz0 Hz1]
    · isplitl [Hk1]; · iexact Hk1
      isplitl [Hk2]; · iexact Hk2
      isplitl [Hk3]; · iexact Hk3
      isplitl [Hs1 Hs2 Hs3 Hs4 Hs5 Hs6 Hs7 Hs8]
      · isplitl [Hs1]; · iexact Hs1
        isplitl [Hs2]; · iexact Hs2
        isplitl [Hs3]; · iexact Hs3
        isplitl [Hs4]; · iexact Hs4
        isplitl [Hs5]; · iexact Hs5
        isplitl [Hs6]; · iexact Hs6
        isplitl [Hs7]; · iexact Hs7
        iexact Hs8
      isplitl [Hr1 Hr2 Hr3 Hr4 Hr5 Hr6]
      · isplitl [Hr1]; · iexact Hr1
        isplitl [Hr2]; · iexact Hr2
        isplitl [Hr3]; · iexact Hr3
        isplitl [Hr4]; · iexact Hr4
        isplitl [Hr5]; · iexact Hr5
        iexact Hr6
      isplitl [Hz0]; · iexact Hz0
      iexact Hz1
    isplitl [Hr7 Hr8 Hs9 Hs10 Hz2 Hz3]
    · isplitl [Hr7 Hr8]
      · isplitl [Hr7] <;> iassumption
      isplitl [Hs9 Hs10]
      · isplitl [Hs9] <;> iassumption
      isplitl [Hz2] <;> iassumption
    isplitl [Hr9 Hr10]
    · isplitl [Hr9] <;> iassumption
    iexact Ho
  iexact Hrest

theorem done_chunk (k : Fin 4) :
    iprop(chunkDone m c k ∗ argRest m c k)
      ⊢ iprop((bigSep Finset.univ fun s => anyM (F := F) c (slotM rsB k s)) ∗ (bigSep Finset.univ fun s => anyM (F := F) c (slotM agB k s))
        ∗ (anyM (F := F) c (chunkM gB k) ∗ anyM (F := F) c (chunkM xB k) ∗ anyM (F := F) c (chunkM yB k) ∗ anyM (F := F) c (chunkM dB k))
        ∗ tens (fun e => zero (F := F) c (semR e)) k ∗ p2Z (F := F) c k
        ∗ (ownM c (argM (tileIx (quad c) k)) (chunkv m c k) ∗ argRest m c k) ∗ outFull m c k) := by
  rw [bigSep_four, bigSep_four]
  unfold tens p2Z chunkDone ringDone s1Done s2Done
  iintro ⟨⟨Ha, ⟨Hrs, Hag, ⟨Hz1, Hz2, Hz3, Hz4, Hz5, Hz6⟩⟩, ⟨Hp0, Hp1, Hz7, Hz8⟩, ⟨Ho, Hc, Hp2, Hp3, Hz9, Hz10⟩⟩, Hrest⟩
  isplitl [Hrs]; · iexact Hrs
  isplitl [Hag]; · iexact Hag
  isplitl [Hc]; · iexact Hc
  isplitl [Hz1 Hz2 Hz3 Hz4 Hz5 Hz6 Hz7 Hz8 Hz9 Hz10]
  · isplitl [Hz1]; · iexact Hz1
    isplitl [Hz2]; · iexact Hz2
    isplitl [Hz3]; · iexact Hz3
    isplitl [Hz4]; · iexact Hz4
    isplitl [Hz5]; · iexact Hz5
    isplitl [Hz6]; · iexact Hz6
    isplitl [Hz7]; · iexact Hz7
    isplitl [Hz8]; · iexact Hz8
    isplitl [Hz9]; · iexact Hz9
    iexact Hz10
  isplitl [Hp0 Hp1 Hp2 Hp3]
  · isplitl [Hp0]; · iexact Hp0
    isplitl [Hp1]; · iexact Hp1
    isplitl [Hp2]; · iexact Hp2
    iexact Hp3
  isplitl [Ha Hrest]
  · isplitl [Ha] <;> iassumption
  iexact Ho

theorem in_chunks :
    iprop((bigSep Finset.univ fun k => keep (F := F) c k) ∗ (bigSep Finset.univ fun e : Ev => (dutyTok ER (cell (tgt e.2 c) e) 0 0 : sProp 𝕄))
        ∗ (bigSep Finset.univ fun e : Ev => land (F := F) e (tgt e.2 c)) ∗ (bigSep Finset.univ fun e : Ev => rcv (F := F) c e)
        ∗ (bigSep Finset.univ fun k => p2Z (F := F) c k) ∗ ownM c argAll (argv m c) ∗ anyM (F := F) c outAll)
      ⊢ bigSep Finset.univ fun k : Fin 4 => iprop(chunkIn m c k ∗ argRest m c k) := by
  have hs : iprop((bigSep Finset.univ fun e : Ev => (dutyTok ER (cell (tgt e.2 c) e) 0 0 : sProp 𝕄)) ∗ (bigSep Finset.univ fun e : Ev => land (F := F) e (tgt e.2 c)))
      ⊢ bigSep Finset.univ fun k => tens (snd (F := F) c) k := by
    rw [← bigSep_sep']
    exact Entails.of_eq (bigSep_tens (snd (F := F) c))
  refine BIBase.Entails.trans ?_ (bigSep_mono fun k _ => in_chunk m c k)
  rw [bigSep_sep', bigSep_sep', bigSep_sep', bigSep_sep', bigSep_sep']
  iintro ⟨H1, H2, H3, H4, H5, H6, H7⟩
  isplitl [H1]; · iexact H1
  isplitl [H2 H3]
  · iapply hs
    isplitl [H2] <;> iassumption
  isplitl [H4]; · iapply (Entails.of_eq (bigSep_tens (rcv (F := F) c))) $$ H4
  isplitl [H5]; · iexact H5
  isplitl [H6]; · iapply (arg_split m c) $$ H6
  iapply (out_split c) $$ H7

theorem done_chunks :
    (bigSep Finset.univ fun k : Fin 4 => iprop(chunkDone m c k ∗ argRest m c k))
      ⊢ iprop(bufs (F := F) c ∗ (bigSep Finset.univ fun e : Ev => zero (F := F) c (semR e)) ∗ (bigSep Finset.univ fun k => p2Z (F := F) c k)
          ∗ ownM c argAll (argv m c) ∗ ownM c outAll (Out m c)) := by
  refine BIBase.Entails.trans (bigSep_mono fun k _ => done_chunk m c k) ?_
  simp only [bigSep_sep']
  rw [← bigSep_sep' Finset.univ (fun k : Fin 4 => ownM c (argM (tileIx (quad c) k)) (chunkv m c k)) (argRest m c)]
  unfold bufs
  iintro ⟨H1, H2, ⟨H3, H4, H5, H6⟩, H7, H8, H9, H10⟩
  isplitl [H1 H2 H3 H4 H5 H6]
  · isplitl [H1]; · iapply ((Entails.of_eq (bigSep_univ_prod (fun p : Fin 4 × Fin 4 => anyM (F := F) c (slotM rsB p.1 p.2))).symm).trans (slots_join c rsB)) $$ H1
    isplitl [H2]; · iapply ((Entails.of_eq (bigSep_univ_prod (fun p : Fin 4 × Fin 4 => anyM (F := F) c (slotM agB p.1 p.2))).symm).trans (slots_join c agB)) $$ H2
    isplitl [H3]; · iapply (chunks_join c gB) $$ H3
    isplitl [H4]; · iapply (chunks_join c xB) $$ H4
    isplitl [H5]; · iapply (chunks_join c yB) $$ H5
    iapply (chunks_join c dB) $$ H6
  isplitl [H7]
  · iapply (Entails.of_eq (bigSep_tens (fun e => zero (F := F) c (semR e))).symm) $$ H7
  isplitl [H8]; · iexact H8
  isplitl [H9]; · iapply (arg_join m c) $$ H9
  iapply (out_join m c) $$ H10

/-- The scratch buffers of a device. -/
def scratch : sProp 𝕄 := iprop(anyM (F := F) c (Memref.whole cc0_scratch0 : Memref sig .tc .vmem S2x1024x1024 .f32) ∗ bufs (F := F) c)
/-- What a device is given at launch. -/
def bodyIn : sProp 𝕄 :=
  iprop(entryIn (F := F) c ∗ (bigSep Finset.univ fun e : Ev => (dutyTok ER (cell (tgt e.2 c) e) 0 0 : sProp 𝕄)) ∗ (bigSep Finset.univ fun e : Ev => rcv (F := F) c e)
    ∗ (bigSep Finset.univ fun l : LSem => zero (F := F) c (semL l)) ∗ scratch (F := F) c ∗ ownM c argAll (argv m c) ∗ anyM (F := F) c outAll)
/-- What it holds at the end. -/
def bodyOut : sProp 𝕄 :=
  iprop(semVal (barCell c) 0 ∗ (bigSep Finset.univ fun e : Ev => zero (F := F) c (semR e)) ∗ (bigSep Finset.univ fun l : LSem => zero (F := F) c (semL l))
    ∗ scratch (F := F) c ∗ ownM c argAll (argv m c) ∗ ownM c outAll (Out m c))

/-- The kernel on one device. -/
theorem body_spec (Q : PUnit → sProp 𝕄) :
    iprop(ctx m K ∗ bodyIn m c ∗ (∃ V, owes (c : Thread nD τ) (O₀ c) V))
      ⊢ iprop(((bodyOut m c ∗ (∃ V, owes (c : Thread nD τ) 0 V)) -∗ Q ⟨⟩) -∗ W c bodyP Q) := by
  unfold bodyP
  rw [lift_bind]
  unfold bodyIn scratch
  rw [semL_split]
  iintro ⟨#Hc, ⟨HE, Htok, Hrcv, ⟨⟨Hl0, Hl1⟩, HZ, ⟨Hr0, Hr1, Hr2⟩, ⟨Ha0, Ha1, Ha2⟩, Hp⟩, ⟨Hxv, Hb⟩, Harg, Hout⟩, HO⟩ Hk
  ihave Hb := (bufs_split c) $$ Hb
  icases Hb with ⟨Hkeep, Hland⟩
  ihave Hxv := ((xv_split c).trans (Entails.of_eq (bigSep_two _))) $$ Hxv
  icases Hxv with ⟨Hx0, Hx1⟩
  unfold W
  rw [wp_deviceId]
  unfold mainP
  iapply (entry_spec m c K _ _ _ (dev1_left c) (dev2_px c) (dev3_py c)) $$ [HE Hland HO]
  · isplitr; · iexact Hc
    isplitl [HE]; · iexact HE
    isplitl [Hland] <;> iassumption
  iintro ⟨Hland, Hbar, HO⟩
  ihave Hin := (in_chunks m c) $$ [Hkeep Htok Hland Hrcv Hp Harg Hout]
  · isplitl [Hkeep]; · iexact Hkeep
    isplitl [Htok]; · iexact Htok
    isplitl [Hland]; · iexact Hland
    isplitl [Hrcv]; · iexact Hrcv
    isplitl [Hp]; · iexact Hp
    isplitl [Harg] <;> iassumption
  ihave Hin := (Entails.of_eq (bigSep_sep' Finset.univ (chunkIn m c) (argRest m c))) $$ Hin
  icases Hin with ⟨Hin, Hrest⟩
  ihave Hin := (Entails.of_eq (bigSep_four (chunkIn m c))) $$ Hin
  rw [← bind_pure (loopP c)]
  iapply (loop_spec m c K) $$ [Hr0 Hr1 Hr2 Ha0 Ha1 Ha2 HZ Hl0 Hx0 Hl1 Hx1 Hin HO]
  · isplitr; · iexact Hc
    isplitl [Hr0 Hr1 Hr2 Ha0 Ha1 Ha2 HZ Hl0 Hx0 Hl1 Hx1]
    · unfold shared hopZ
      isplitl [Hr0 Hr1 Hr2 Ha0 Ha1 Ha2]
      · isplitl [Hr0]; · iexact Hr0
        isplitl [Hr1]; · iexact Hr1
        isplitl [Hr2]; · iexact Hr2
        isplitl [Ha0]; · iexact Ha0
        isplitl [Ha1] <;> iassumption
      isplitl [HZ]; · iexact HZ
      isplitl [Hl0 Hx0]
      · isplitl [Hl0] <;> iassumption
      isplitl [Hl1] <;> iassumption
    isplitl [Hin]; · iexact Hin
    iexact HO
  unfold shared hopZ
  iintro ⟨⟨⟨Hr0, Hr1, Hr2, Ha0, Ha1, Ha2⟩, HZ, ⟨Hl0, Hx0⟩, ⟨Hl1, Hx1⟩⟩, Hdone, HO⟩
  unfold W
  rw [Prog.pure_eq_ret, wp_ret]
  imodintro
  iapply Hk
  ihave Hdone := (Entails.of_eq (bigSep_four (chunkDone m c)).symm) $$ Hdone
  ihave Hdone := ((Entails.of_eq (bigSep_sep' Finset.univ (chunkDone m c) (argRest m c)).symm).trans (done_chunks m c)) $$ [Hdone Hrest]
  · isplitl [Hdone] <;> iassumption
  icases Hdone with ⟨Hb, Hz, Hp, Harg, Hout⟩
  isplitr [HO]
  · unfold bodyOut scratch
    rw [semL_split]
    isplitl [Hbar]; · iexact Hbar
    isplitl [Hz]; · iexact Hz
    isplitl [Hl0 Hl1 HZ Hr0 Hr1 Hr2 Ha0 Ha1 Ha2 Hp]
    · isplitl [Hl0 Hl1]
      · isplitl [Hl0] <;> iassumption
      isplitl [HZ]; · iexact HZ
      isplitl [Hr0 Hr1 Hr2]
      · isplitl [Hr0]; · iexact Hr0
        isplitl [Hr1] <;> iassumption
      isplitl [Ha0 Ha1 Ha2]
      · isplitl [Ha0]; · iexact Ha0
        isplitl [Ha1] <;> iassumption
      iexact Hp
    isplitl [Hx0 Hx1 Hb]
    · isplitl [Hx0 Hx1]
      · iapply ((Entails.of_eq (bigSep_two fun j => anyM (F := F) c (xvM j)).symm).trans (xv_join c))
        isplitl [Hx0] <;> iassumption
      iexact Hb
    isplitl [Harg] <;> iassumption
  unfold owesE
  rw [owe_end]
  iexact HO

end Cert.KernelIdeal.Proof

end
-- ==== Proof.KI.Launch.lean ====
module

public import proofs.«01_k».proof.Proof.KI.Body

/-! What the launch deals each device: the semaphores of the schedule allocated as invariants, every duty token carried
    to the device that pays it, and the credits of what all devices owe at launch. -/

@[expose] public section

noncomputable section

namespace Cert.KernelIdeal.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The kernel's own semaphores -/

/-- The DMA semaphores the kernel uses: those that receive, and those a device waits on for its own copies. -/
def osem : Ev ⊕ LSem → SemLoc sig
  | .inl e => .dma (semR e)
  | .inr l => .dma (semL l)

theorem osem_inj : Function.Injective osem := by
  rintro (e | l) (e' | l') h
  · exact congrArg Sum.inl (semR_inj (SemLoc.dma.inj h))
  · exact absurd (SemLoc.dma.inj h) (semR_ne_semL e l')
  · exact absurd (SemLoc.dma.inj h).symm (semR_ne_semL e' l)
  · exact congrArg Sum.inr (semL_inj (SemLoc.dma.inj h))

set_option maxRecDepth 20000 in
theorem osem_scoped : ∀ k, (osem k).isScoped .tc = true := by decide +kernel

theorem ownSemFacts : Pipeline.OwnSemFacts cfg0.spec osem := ⟨osem_scoped, osem_inj, fun _ w => w.elim0⟩

theorem ownSems0_eq (c : Dev nD) : (Pipeline.ownSems0 (Ix := Unit) (Name := ℕ) (U := UU) (Lvl := ℕ) (Val := Elt F) (τ := τ) osem c : sProp 𝕄)
    = iprop((bigSep Finset.univ fun e : Ev => zero (F := F) c (semR e)) ∗ bigSep Finset.univ fun l : LSem => zero (F := F) c (semL l)) :=
  bigSep_univ_sum _
theorem unscopedSems0_eq (c : Dev nD) : (unscopedSems0 c : sProp 𝕄) = semVal (barCell c) 0 := by
  unfold unscopedSems0; rw [bigSep_eq_bigSepL_of_eq [SemLoc.reg barS] (by decide) (by decide)]; rfl

/-! ## The cells and the tokens -/

theorem kcell_injective : Function.Injective (kcell : Dev nD × Option Ev → GSem nD τ sig) := by
  rintro ⟨c, k⟩ ⟨c', k'⟩ h
  have h1 : c = c' := by
    have := congrArg (fun g : GSem nD τ sig => g.1.1) h
    cases k <;> cases k' <;> exact this
  subst h1
  have h2 := congrArg Prod.snd h
  cases k with
  | none => cases k' with
    | none => rfl
    | some e' => cases h2
  | some e => cases k' with
    | none => cases h2
    | some e' => rw [semR_inj (SemLoc.dma.inj h2)]
def ringCells : Finset (GSem nD τ sig) := Finset.univ.map ⟨kcell, kcell_injective⟩

/-- A device's own cells' duties: three of its barrier, one of each receiving semaphore. -/
abbrev tokOf (p : Dev nD × (Fin 3 ⊕ Ev)) : GSem nD τ sig × ℕ × Fin 3 := match p.2 with
  | .inl d => (barCell p.1, 0, d)
  | .inr e => (cell p.1 e, 0, 0)
theorem tokOf_injective : Function.Injective (tokOf : Dev nD × (Fin 3 ⊕ Ev) → GSem nD τ sig × ℕ × Fin 3) := by
  rintro ⟨c, j⟩ ⟨c', j'⟩ h
  have h1 : c = c' := by
    have := congrArg (fun x : GSem nD τ sig × ℕ × Fin 3 => x.1.1.1) h
    cases j <;> cases j' <;> exact this
  subst h1
  have h2 := congrArg (fun x : GSem nD τ sig × ℕ × Fin 3 => x.1.2) h
  have h3 := congrArg (fun x : GSem nD τ sig × ℕ × Fin 3 => x.2.2) h
  cases j with
  | inl d => cases j' with
    | inl d' => exact congrArg (fun d => (c, Sum.inl d)) h3
    | inr e' => cases h2
  | inr e => cases j' with
    | inl d' => cases h2
    | inr e' => rw [semR_inj (SemLoc.dma.inj h2)]
def ringToks : Finset (GSem nD τ sig × ℕ × Fin 3) := Finset.univ.map ⟨tokOf, tokOf_injective⟩

def u₀ : UU :=
  (initOf (Pipeline.cells cfgs cellOf_inj) (Pipeline.launchToks cfgs cellOf_inj), (initOf ringCells ringToks, 1))

theorem ownU_split (a : UR sig nD τ) (b : UB) : (ownU ((a, (b, 1)) : UU) : sProp 𝕄) ⊢ iprop(BI.own (EP a) ∗ BI.own (ER b)) :=
  BI.own_op_elim ((uEmb (nD := nD) (τ := τ) (sig := sig) (Ix := Unit) (Val := Elt F) (Name := ℕ) (U := UU) (Lvl := ℕ)).toEmb.op_of_mem
    (Prod.mk_mem_op (URA.mem_op_one a) (URA.mem_one_op (b, (1 : Counters)))))

/-- The duty tokens of a device's own cells. -/
def toks (c : Dev nD) : sProp 𝕄 :=
  iprop((bigSep Finset.univ fun d : Fin 3 => dutyTok ER (barCell c) 0 d) ∗ bigSep Finset.univ fun e : Ev => dutyTok ER (cell c e) 0 0)
/-- The duty tokens a device pays. -/
def payToks (c : Dev nD) : sProp 𝕄 :=
  iprop((dutyTok ER (barCell (left c)) 0 0 ∗ dutyTok ER (barCell (px c)) 0 1 ∗ dutyTok ER (barCell (py c)) 0 2)
    ∗ bigSep Finset.univ fun e : Ev => dutyTok ER (cell (tgt e.2 c) e) 0 0)

/-- What the launch element deals a device. -/
def G (c : Dev nD) : sProp 𝕄 :=
  iprop((bigSep Finset.univ fun k : Option Ev => roundState ER (Rd m) (kcell (c, k)) 0)
    ∗ (bigSep Finset.univ fun k : Option Ev => iprop(atPos ER (kcell (c, k)) 0 ∅ 0 ∗ reached ER (kcell (c, k)) 0)) ∗ toks c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Option Ev => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_univ_sum]; rfl
  iintro HX
  imod (Rounds.fund ER (Rd m) ringCells ringToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- Over the barrier and the events, each on its own. -/
theorem bigSep_optEv (Φ : Option Ev → sProp 𝕄) : bigSep Finset.univ Φ = iprop(Φ none ∗ bigSep Finset.univ fun e : Ev => Φ (some e)) := by
  rw [bigSep_univ_equiv ((Equiv.sumComm PUnit.{1} Ev).trans (Equiv.optionEquivSumPUnit.{0} Ev).symm) Φ, bigSep_univ_sum,
    bigSep_univ_of_subsingleton PUnit.unit]
  rfl

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c
          ∗ bigSep Finset.univ fun l : LSem => zero (F := F) c (semL l)) := by
  unfold G
  rw [ownSems0_eq, unscopedSems0_eq]
  iintro ⟨⟨HE, HL⟩, Hus, Hst, Hat, Htok⟩
  ihave Hv := (Entails.of_eq (bigSep_optEv fun k => (semVal (kcell (c, k)) 0 : sProp 𝕄)).symm) $$ [HE Hus]
  · isplitl [Hus]; · iexact Hus
    iexact HE
  imod (show iprop((bigSep Finset.univ fun k : Option Ev => semVal (kcell (c, k)) 0) ∗ bigSep Finset.univ fun k : Option Ev => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok] <;> iassumption

/-! ## Dealing the tokens -/

/-- A map of devices with an inverse. -/
def devEquiv (f g : Dev nD → Dev nD) (h1 : ∀ c, g (f c) = c) (h2 : ∀ c, f (g c) = c) : Dev nD ≃ Dev nD := ⟨f, g, h1, h2⟩

theorem deal (f g : Dev nD → Dev nD) (h1 : ∀ c, g (f c) = c) (h2 : ∀ c, f (g c) = c) (Φ : Dev nD → sProp 𝕄) :
    bigSep Finset.univ Φ = bigSep Finset.univ fun c => Φ (f c) := bigSep_univ_equiv (devEquiv f g h1 h2) Φ

theorem toks_around : (bigSep Finset.univ fun c : Dev nD => (toks c : sProp 𝕄)) ⊢ bigSep Finset.univ fun c : Dev nD => payToks c := by
  unfold toks payToks
  simp only [bigSep_three, bigSep_sep']
  rw [deal left right right_left left_right (fun c : Dev nD => (dutyTok ER (barCell c) 0 0 : sProp 𝕄)),
    deal px px px_px px_px (fun c : Dev nD => (dutyTok ER (barCell c) 0 1 : sProp 𝕄)),
    deal py py py_py py_py (fun c : Dev nD => (dutyTok ER (barCell c) 0 2 : sProp 𝕄)),
    BI.bigSep_univ_comm (fun (c : Dev nD) (e : Ev) => (dutyTok ER (cell c e) 0 0 : sProp 𝕄)),
    BI.bigSep_univ_comm (fun (c : Dev nD) (e : Ev) => (dutyTok ER (cell (tgt e.2 c) e) 0 0 : sProp 𝕄)),
    bigSep_congr (s := Finset.univ) (fun (e : Ev) _ => deal (tgt e.2) (srcOf e.2) (srcOf_tgt e.2) (tgt_srcOf e.2) (fun c : Dev nD => (dutyTok ER (cell c e) 0 0 : sProp 𝕄)))]

/-- The facts all devices share, before the levels are known. -/
def records (K : Dev nD × Option Ev → ℕ) : sProp 𝕄 :=
  iprop((bigSep Finset.univ fun p : Dev nD × Option Ev => cellInv ER (Rd m) (K p) (kcell p))
    ∗ bigSep Finset.univ fun p : Dev nD × Option Ev => reached ER (kcell p) 0)
instance records_persistent (K : Dev nD × Option Ev → ℕ) : BI.Persistent (records m K) := by unfold records; infer_instance

/-- What stays with a device. -/
def linear (c : Dev nD) : sProp 𝕄 :=
  iprop((bigSep Finset.univ fun k : Option Ev => atPos ER (kcell (c, k)) 0 ∅ 0) ∗ payToks c ∗ bigSep Finset.univ fun l : LSem => zero (F := F) c (semL l))

/-- What the devices hold once the invariants stand. -/
def G' (c : Dev nD) : sProp 𝕄 := iprop(∃ K, records m K ∗ linear (F := F) c)

theorem regroup :
    (bigSep Finset.univ fun c : Dev nD => iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c
          ∗ bigSep Finset.univ fun l : LSem => zero (F := F) c (semL l)) : sProp 𝕄)
      ⊢ bigSep Finset.univ (G' m) := by
  rw [bigSep_sep', bigSep_sep', bigSep_sep', ← bigSep_univ_prod (fun ck : Dev nD × Option Ev => iprop(∃ κ : ℕ, cellInv ER (Rd m) κ (kcell ck))),
    bigSep_congr (s := Finset.univ) (fun (c : Dev nD) _ => bigSep_sep' Finset.univ (fun k : Option Ev => (atPos ER (kcell (c, k)) 0 ∅ 0 : sProp 𝕄)) (fun k => reached ER (kcell (c, k)) 0)),
    bigSep_sep', ← bigSep_univ_prod (fun ck : Dev nD × Option Ev => (reached ER (kcell ck) 0 : sProp 𝕄))]
  iintro ⟨HI, ⟨Hat, #HR⟩, Htok, HL⟩
  ihave HK := (BI.bigSep_exists_pi Finset.univ (fun (ck : Dev nD × Option Ev) (κ : ℕ) => (cellInv ER (Rd m) κ (kcell ck) : sProp 𝕄))) $$ HI
  icases HK with ⟨%K, #HI⟩
  ihave Htk := (toks_around (F := F)) $$ Htok
  have hin (c : Dev nD) : iprop(records m K ∗ linear (F := F) c) ⊢ G' m c := by
    unfold G'; iintro H; iexists K; iexact H
  iapply ((sep_mono_left (BI.bigSep_of_persistent Finset.univ (records m K))).trans (by
    rw [← bigSep_sep']; exact bigSep_mono fun c _ => hin c) : iprop(records m K ∗ bigSep Finset.univ (linear (F := F))) ⊢ bigSep Finset.univ (G' m))
  isplitr
  · unfold records; isplitl; · iexact HI
    iexact HR
  · unfold linear
    simp only [bigSep_sep']
    isplitl [Hat]; · iexact Hat
    isplitl [Htk] <;> iassumption

/-- All semaphores of all devices, at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

theorem bar_eq_iff {a b : Dev nD} : Iff (barCell a = barCell b) (a = b) :=
  ⟨fun h => congrArg (fun g : GSem nD τ sig => g.1.1) h, fun h => h ▸ rfl⟩
theorem cell_eq_iff {a b : Dev nD} {e e' : Ev} : Iff (cell a e = cell b e') (a = b ∧ e = e') :=
  ⟨fun h => ⟨congrArg (fun g : GSem nD τ sig => g.1.1) h, semR_inj (SemLoc.dma.inj (congrArg Prod.snd h))⟩, fun ⟨h, h'⟩ => by rw [h, h']⟩
theorem cell_ne_bar {a b : Dev nD} {e : Ev} : barCell a ≠ cell b e := fun h => by cases congrArg Prod.snd h

/-- A sum of tallies, read at one cell. -/
theorem sum_tally {ι : Type} (s : Finset ι) (f : ι → CellTallies nD τ sig Unit) (g : GSem nD τ sig) (u : Unit) :
    (s.sum f) g u = s.sum fun i => f i g u := by
  rw [Finset.sum_apply, Finsupp.finset_sum_apply]

theorem owe_bar (d c : Dev nD) (n : ℕ) : owe d n (barCell c) () = 0 := by
  unfold owe; rw [sum_tally]
  exact Finset.sum_eq_zero fun e _ => by rw [tallyAt_ne_cell cell_ne_bar]; rfl

theorem bar_tally (f g : Dev nD → Dev nD) (h1 : ∀ c, g (f c) = c) (h2 : ∀ c, f (g c) = c) (d c : Dev nD) :
    tallyAt (barCell (f d)) () 1 (barCell c) () = if d = g c then 1 else 0 := by
  rw [tallyAt_apply]
  by_cases h : d = g c
  · subst h; rw [h2, if_pos ⟨rfl, rfl⟩, if_pos rfl]
  · rw [if_neg (fun ⟨h', _⟩ => h (by rw [bar_eq_iff.mp h', h1])), if_neg h]

theorem owed_bar (d c : Dev nD) : O₀ d (barCell c) () = (if d = py c then 1 else 0) + (if d = px c then 1 else 0) + (if d = right c then 1 else 0) := by
  unfold O₀
  rw [Pi.add_apply, Finsupp.add_apply, Pi.add_apply, Finsupp.add_apply, Pi.add_apply, Finsupp.add_apply, owe_bar, Nat.zero_add,
    bar_tally py py py_py py_py, bar_tally px px px_px px_px, bar_tally left right right_left left_right]

theorem owed_cell (d c : Dev nD) (e : Ev) : O₀ d (cell c e) () = if d = srcOf e.2 c then amt e.2 else 0 := by
  unfold O₀
  rw [Pi.add_apply, Finsupp.add_apply, Pi.add_apply, Finsupp.add_apply, Pi.add_apply, Finsupp.add_apply,
    tallyAt_ne_cell cell_ne_bar.symm, tallyAt_ne_cell cell_ne_bar.symm, tallyAt_ne_cell cell_ne_bar.symm]
  simp only [Finsupp.zero_apply, Nat.add_zero]
  unfold owe later
  rw [sum_tally, Finset.filter_true_of_mem (fun e _ => Nat.zero_le _), Finset.sum_eq_single e]
  · rw [tallyAt_apply]
    by_cases h : d = srcOf e.2 c
    · subst h; rw [tgt_srcOf, if_pos ⟨rfl, rfl⟩, if_pos rfl]
    · rw [if_neg (fun ⟨h', _⟩ => h (by rw [(cell_eq_iff.mp h').1, srcOf_tgt])), if_neg h]
  · intro e' _ he
    rw [tallyAt_apply, if_neg (fun ⟨h', _⟩ => he (cell_eq_iff.mp h').2.symm)]
  · exact fun h => absurd (Finset.mem_univ e) h

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib, Finset.sum_add_distrib,
    Finset.sum_ite_eq' Finset.univ (py c) fun _ => 1, Finset.sum_ite_eq' Finset.univ (px c) fun _ => 1, Finset.sum_ite_eq' Finset.univ (right c) fun _ => 1,
    if_pos (Finset.mem_univ _), if_pos (Finset.mem_univ _), if_pos (Finset.mem_univ _)]
theorem launch_cell (c : Dev nD) (e : Ev) :
    tallyOn (cell c e) (launchCredit (Pipeline.owing O₀) 0 (cell c e)) = (tallyAt (cell c e) () (amt e.2) : CellTallies nD τ sig Unit) := by
  unfold tallyAt; refine congrArg _ (Finsupp.ext fun u => ?_); cases u
  rw [Pipeline.launchCredit_owing, Finsupp.single_eq_same, Finset.sum_congr rfl fun d _ => owed_cell d c e,
    Finset.sum_ite_eq' Finset.univ (srcOf e.2 c) fun _ => amt e.2, if_pos (Finset.mem_univ _)]

/-- The semaphores a device is launched with credit for. -/
def credSems : Option Ev → SemLoc sig
  | none => .reg barS
  | some e => .dma (semR e)
theorem credSems_inj : Function.Injective credSems := by
  intro k k' h
  cases k with
  | none => cases k' with
    | none => rfl
    | some e' => cases h
  | some e => cases k' with
    | none => cases h
    | some e' => rw [semR_inj (SemLoc.dma.inj h)]

theorem creds (c : Dev nD) :
    (Pipeline.launchCred O₀ c : sProp 𝕄) ⊢ iprop(cred (tallyAt (barCell c) () 3) ∗ bigSep Finset.univ fun e : Ev => cred (tallyAt (cell c e) () (amt e.2))) := by
  unfold Pipeline.launchCred
  refine BIBase.Entails.trans (bigSep_subset (Finset.subset_univ (Finset.univ.map ⟨credSems, credSems_inj⟩))) ?_
  rw [bigSep_map, bigSep_optEv]
  refine Entails.of_eq (congrArg₂ BIBase.sep (congrArg cred (launch_bar c)) (bigSep_congr fun e _ => congrArg cred (launch_cell c e)))

end Cert.KernelIdeal.Proof

end
-- ==== Proof.KI.BodyEq.lean ====
module

public import proofs.«01_k».proof.Proof.KI.Prog

@[expose] public section

noncomputable section

namespace Cert.KernelIdeal.Proof

open Idealize.ShloMosaic Idealize.SL.Sem
open Cert.KernelIdeal.Gen

variable {F : FTy → Type} [FloatOps F]

set_option maxRecDepth 65536 in
set_option maxHeartbeats 20000000 in
/-- The printed body is the sequence of steps. -/
theorem body_eq (t : Fin cfg0.N) : bodyAt0 (F := F) t = bodyP := by
  unfold bodyAt0
  rw [cc0_body_eq_skeleton]
  simp only [cc0_body_skel, bodyP, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part1_skel, k0_part2_skel, k0_part3_skel, k0_part4_skel, k0_part5_skel, k0_part6_skel, k0_part7_skel, k0_part8_skel, k0_part9_skel, k0_part10_skel, k0_part11_skel, k0_part12_skel, k0_part13_skel, k0_part14_skel, k0_part15_skel, k0_part16_skel, k0_part17_skel, k0_part18_skel, k0_part19_skel, k0_part20_skel, k0_part21_skel, k0_part22_skel, k0_part23_skel, k0_part24_skel, k0_part25_skel, k0_part26_skel, k0_part27_skel, k0_part28_skel, k0_part29_skel, k0_part30_skel, k0_part31_skel, k0_part32_skel, k0_part33_skel, k0_part34_skel, k0_part35_skel, k0_part36_skel, k0_part37_skel, k0_part38_skel, k0_part39_skel, k0_part40_skel, k0_part41_skel, k0_part42_skel, k0_part43_skel, k0_part44_skel, k0_part45_skel, k0_part46_skel, k0_part47_skel, k0_part48_skel, k0_part49_skel, k0_part50_skel, k0_part51_skel, k0_part52_skel, k0_part53_skel, k0_part54_skel, k0_part55_skel, k0_part56_skel, k0_part57_skel, k0_part58_skel, k0_part59_skel, k0_part60_skel, k0_part61_skel, k0_part62_skel, k0_part63_skel, k0_part64_skel, k0_part65_skel, k0_part66_skel, k0_part67_skel, k0_part68_skel, k0_part69_skel, k0_part70_skel, k0_part71_skel, k0_part72_skel, k0_part73_skel, mainP, loopP, entryP, ldStart, ldWait, ringP, stageP, hopP, accP, ownP, putP, stGat, ldSlot, stSlot, ldBlk, xyP, s1P, s2P, sendChunk, waitChunk, sendHalf, waitHalf, outStart, outWait, bind_assoc, pure_bind]
  rfl

end Cert.KernelIdeal.Proof

end
-- ==== Proof.KI.Run.lean ====
module

public import proofs.«01_k».proof.Proof.KI.Launch
public import proofs.«01_k».proof.Proof.KI.BodyEq
public import Idealize.ShloMosaic.Lib.Pipeline.CollectiveSegs

/-! The run of the kernel on all devices, from any memory: it terminates, leaves the argument as it was and every
    semaphore at zero, and the result of each device at `Out`. -/

@[expose] public section

noncomputable section

namespace Cert.KernelIdeal.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- What a device holds when its kernel is called, its scratch aside. -/
def start (c : Dev nD) : sProp 𝕄 :=
  iprop(∃ K, ctx m K ∗ linear (F := F) c
    ∗ (cred (tallyAt (barCell c) () 3) ∗ bigSep Finset.univ fun e : Ev => cred (tallyAt (cell c e) () (amt e.2)))
    ∗ ownM c argAll (argv m c) ∗ anyM (F := F) c outAll)
def Φ₀ (c : Dev nD) : sProp 𝕄 := iprop(start m c ∗ scratch (F := F) c)

/-- A buffer that holds something is a scratch buffer. -/
theorem any_whole (c : Dev nD) (b : Ref sig .tc) : (iprop(∃ f : Buf (Elt F) ((c : Thread nD τ).loc b), ((c : Thread nD τ).loc b) ↦{fullShare} f) : sProp 𝕄)
    = anyM (F := F) c (Memref.whole b) := by
  unfold anyM; exact congrArg _ (funext fun f => (owns_whole (c : Thread nD τ) b fullShare f).symm)

theorem scratch_eq (c : Dev nD) : (Pipeline.scopedRest (Ix := Unit) (Name := ℕ) (U := UU) (Lvl := ℕ) (Val := Elt F) cfg0.spec c : sProp 𝕄) = scratch (F := F) c := by
  rw [scopedRest0_eq]
  unfold scratch bufs
  simp only [any_whole]

theorem phi0_body (c : Dev nD) : Φ₀ m c ⊢ iprop(∃ K, ctx m K ∗ bodyIn m c) := by
  unfold Φ₀ start linear payToks bodyIn entryIn rcv
  iintro ⟨⟨%K, Hc, ⟨Hat, ⟨Hb, Htok⟩, HL⟩, ⟨Hcb, Hce⟩, Harg, Hout⟩, Hs⟩
  iexists K
  isplitl [Hc]; · iexact Hc
  ihave Hat := (Entails.of_eq (bigSep_optEv fun k => (atPos ER (kcell (c, k)) 0 ∅ 0 : sProp 𝕄))) $$ Hat
  icases Hat with ⟨Hab, Hae⟩
  isplitl [Hb Hab Hcb]
  · isplitl [Hb]; · iexact Hb
    isplitl [Hab] <;> iassumption
  isplitl [Htok]; · iexact Htok
  isplitl [Hae Hce]
  · rw [bigSep_sep']
    isplitl [Hae] <;> iassumption
  isplitl [HL]; · iexact HL
  isplitl [Hs]; · iexact Hs
  isplitl [Harg] <;> iassumption

def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => bodyOut m c
  q w := w.elim0
  owed t := match t with
    | ⟨0, _⟩ => O₀ c
    | ⟨_ + 1, _⟩ => 0

theorem bigSep_noWin (Φ : Fin cfg0.W → sProp 𝕄) : bigSep Finset.univ Φ = iprop(emp) := by
  rw [show (Finset.univ : Finset (Fin cfg0.W)) = ∅ from rfl]; rfl

set_option maxRecDepth 65536 in
/-- The body of the one grid point. -/
theorem body_obligation (c : Dev nD) : BodyObligation (dats (F := F) m 0 c) (defs₀ (F := F)) 𝒱₀ () Set.univ := fun t => by
  rw [fin_N0 t]
  rw [bigSep_noWin, bigSep_noWin]
  show iprop(Φ₀ m c ∗ (dats m 0 c).owesAt () t0_0.castSucc ∗ emp) ⊢ wp frame (wpE (defs₀ (F := F)) 𝒱₀ c none) Set.univ (bodyAt0 (F := F) t0_0)
    (fun _ => iprop(bodyOut m c ∗ (dats m 0 c).owesAt () t0_0.succ ∗ emp))
  rw [body_eq]
  unfold Dat.owesAt Pipeline.owesWithin
  iintro ⟨HΦ, ⟨%V, -, HO⟩, -⟩
  ihave HΦ := (phi0_body m c) $$ HΦ
  icases HΦ with ⟨%K, Hc, Hb⟩
  iapply (body_spec m c K) $$ [Hc Hb HO]
  · isplitl [Hc]; · iexact Hc
    isplitl [Hb]; · iexact Hb
    iexists V; iexact HO
  iintro ⟨Hb, ⟨%V', HO⟩⟩
  isplitl [Hb]; · iexact Hb
  isplitl [HO]
  · iexists V'
    isplitr; · ipureintro; exact fun _ _ => Or.inl trivial
    iexact HO
  iempintro

/-! ## The launch's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨⟨Harg, Hout⟩, Hlev, Hcr, -, HG⟩
  ihave Hc := (creds (F := F) c) $$ Hcr
  imodintro
  unfold start G' records ctx
  icases HG with ⟨%K, ⟨HI, HR⟩, Hlin⟩
  isplitl
  · iexists K
    isplitl [HI HR Hlev]
    · isplitl [HI]; · iexact HI
      isplitl [HR] <;> iassumption
    isplitl [Hlin]; · iexact Hlin
    isplitl [Hc]; · iexact Hc
    isplitl [Harg]
    · iapply (Entails.of_eq (owns_whole (c : Thread nD τ) main_arg0 fullShare (m ((c : Thread nD τ).loc main_arg0))).symm) $$ Harg
    · iapply (Entails.of_eq (any_whole (F := F) c main_v1))
      iexists _; iexact Hout
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scratch_eq]
  unfold Φ₀
  iintro ⟨Hs, -, Hr⟩
  isplitl [Hs] <;> iassumption

/-- What a device's memory is read from at the end. -/
def finish (c : Dev nD) : sProp 𝕄 := iprop(unscopedSems0 c ∗ ownM c argAll (argv m c) ∗ ownM c outAll (Out m c))

theorem phi1_exit (c : Dev nD) :
    (dats m 0 c).Φ (Fin.last cfg0.N) ⊢ iprop(finish m c ∗ Pipeline.ownSems0 osem c ∗ Pipeline.scopedRest cfg0.spec c) := by
  rw [show (dats m 0 c).Φ (Fin.last cfg0.N) = bodyOut m c from rfl, scratch_eq, ownSems0_eq]
  unfold bodyOut finish
  rw [unscopedSems0_eq]
  iintro ⟨HB, HE, HL, Hs, Harg, Hout⟩
  isplitl [HB Harg Hout]
  · isplitl [HB]; · iexact HB
    isplitl [Harg] <;> iassumption
  isplitl [HE HL]
  · isplitl [HE] <;> iassumption
  iexact Hs

theorem waits (c : Dev nD) : (levAts L lv : sProp 𝕄) ⊢ Pipeline.cellsWaits cfgs (dats m) () 0 c :=
  Pipeline.cellsWaits_intro cfgs (dats m) () 0 c fun w => w.elim0

/-- What a final state shows of a device. -/
def Shows (c : Dev nD) (s : MemSt nD τ sig (Elt F)) : Prop :=
  (∀ sm : SemLoc sig, sm.isScoped .tc = false → s.sem ((c.tc : Thread nD τ), sm) = 0)
    ∧ s.mem ((c : Thread nD τ).loc main_arg0) = m ((c : Thread nD τ).loc main_arg0)
    ∧ s.mem ((c : Thread nD τ).loc main_v1) = Out m c

theorem read_one (ℓ : Loc nD τ sig) (f : Buf (Elt F) ℓ) (s' : Phys nD τ sig (Elt F)) :
    (iprop((ℓ ↦{fullShare} f) ∗ SI s') : sProp 𝕄) ⊢ iprop(⌜s'.mem.mem ℓ = f⌝ ∗ SI s') := by
  have h := pointsTo_read_all (Ix := Unit) (Name := ℕ) (U := UU) (Lvl := ℕ) ({()} : Finset Unit) (fun _ => ℓ) (fun _ => f) s'
  rw [bigSep_singleton] at h
  refine h.trans ?_
  iintro ⟨%H, HS⟩
  isplitr; · ipureintro; exact H () (Finset.mem_singleton_self _)
  iexact HS

theorem out_pts (c : Dev nD) : ownM c outAll (Out m c) ⊢ (((c : Thread nD τ).loc main_v1) ↦{fullShare} (Out m c : Buf (Elt F) ((c : Thread nD τ).loc main_v1)) : sProp 𝕄) := by
  have h := owns_whole (Val := Elt F) (Ix := Unit) (Name := ℕ) (U := UU) (Lvl := ℕ) (c : Thread nD τ) main_v1 fullShare (Out m c : Buf (Elt F) ((c : Thread nD τ).loc main_v1))
  exact Entails.of_eq h

theorem finish_read (c : Dev nD) (s' : Phys nD τ sig (Elt F)) :
    iprop(finish m c ∗ emp ∗ SI s') ⊢ |={Set.univ}=> iprop(⌜Shows m c s'.mem⌝ ∗ SI s') := by
  unfold finish
  iintro ⟨⟨Hu, Harg, Hout⟩, -, HSI⟩
  ihave Harg := (show ownM c argAll (argv m c) ⊢ (((c : Thread nD τ).loc main_arg0) ↦{fullShare} m ((c : Thread nD τ).loc main_arg0)) from
    Entails.of_eq (owns_whole (c : Thread nD τ) main_arg0 fullShare (m ((c : Thread nD τ).loc main_arg0)))) $$ Harg
  ihave Hout := (out_pts m c) $$ Hout
  ihave H := (read_one ((c : Thread nD τ).loc main_arg0) (m ((c : Thread nD τ).loc main_arg0)) s') $$ [Harg HSI]
  · isplitl [Harg] <;> iassumption
  icases H with ⟨%h1, HSI⟩
  ihave H := (read_one ((c : Thread nD τ).loc main_v1) (Out m c) s') $$ [Hout HSI]
  · isplitl [Hout] <;> iassumption
  icases H with ⟨%h2, HSI⟩
  imod (Pipeline.unscopedSems0_read (X := unscopedSems0 c) (c := c) fupd_intro s') $$ [Hu HSI] with ⟨%h3, HSI⟩
  · isplitl [Hu] <;> iassumption
  imodintro
  isplitr; · ipureintro; exact ⟨h3, h1, h2⟩
  iexact HSI

theorem share_eq (c : Dev nD) (w : Fin cfg0.W) : (dats m 0 c).share w = fullShare := w.elim0

set_option maxRecDepth 65536 in
/-- From any memory with every semaphore at zero, every fair execution of the kernel on the sixteen devices ends; in
    every final state the argument of each device is what it was, its result is `Out`, and every semaphore is at zero. -/
theorem run_main : θ_run defs (onTc (τ := τ) (main (F := F))) (s₀ m ρ) (fun r =>
    (∀ c : Dev nD, r.2.mem ((c : Thread nD τ).loc main_arg0) = m ((c : Thread nD τ).loc main_arg0) ∧ r.2.mem ((c : Thread nD τ).loc main_v1) = Out m c)
      ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => w.elim0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_split _ _) $$ Hu
      icases H with ⟨HP, HX⟩
      imod (fund_ring m) $$ HX with HG
      imodintro
      isplitl [HP] <;> iassumption)
    (hglob := glob m)
    (hA := fun _ w => w.elim0) (hpf := fun _ k => k.elim0)
    (X := start m) (Y := finish m) (Z := fun _ => iprop(emp))
    (hX := start_intro m ρ) (hin := phi0_intro m) (hout := phi1_exit m)
    (QY := Shows m)
    (hY := finish_read m)
    (hQ := fun _ h hs => ⟨fun c => (h c).2.2.2, sem_eq_zero hs fun c => (h c).2.2.1⟩)

end Cert.KernelIdeal.Proof

end
-- ==== Proof.KI.Value.lean ====
module

public import proofs.«01_k».proof.Proof.KI.Pack
public import Idealize.ShloMosaic.Lib.IdealHost

/-! At exact arithmetic: the result of a device, at each index, is the sum over the four devices of a ring along `z` of
    their arguments at that index. -/

@[expose] public section

noncomputable section

namespace Cert.KernelIdeal.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight)
open Idealize.ShloMosaic.Pipeline (Dat Cfg Window BodyObligation cellOf)

variable (m : (ℓ : Loc nD τ sig) → Buf (Elt Ideal) ℓ)

theorem mz_zdev (c : Dev nD) (z : Fin 4) : mz (zdev c z) = z := by revert c z; decide
theorem left_zdev (c : Dev nD) (z : Fin 4) : left (zdev c z) = zdev c (z + 3) := by revert c z; decide
theorem quad_zdev (c : Dev nD) (z : Fin 4) : quad (zdev c z) = quad c := by revert c z; decide
theorem zdev_zdev (c : Dev nD) (y z : Fin 4) : zdev (zdev c y) z = zdev c z := by revert c y z; decide
theorem quad_sqdev (c : Dev nD) (q : Fin 4) : quad (sqdev c q) = q := by revert c q; decide

/-- The argument of a device at exact arithmetic. -/
def argE (d : Dev nD) (i : S16384x1024.Idx) : EReal := argv m d i
/-- A block of it. -/
def blkE (d : Dev nD) (k q : Fin 4) (j : S256x1024.Idx) : EReal := blk m d k q j

/-- The block of a device at an index of the result that its square owns is its argument there. -/
theorem blk_at (d : Dev nD) (i : S16384x1024.Idx) (hd : quad d = quadOf i) :
    blkE m d (chunkOf i) (blkOf (rowOf i)) (rowIn (rowOf i)) = argE m d i := by
  refine congrArg (argv m d) (funext fun a => Fin.ext ?_)
  have h0 : (i 0).val < 16384 := (i 0).isLt
  have hq : (quad d).val = (i 0).val / 4096 := congrArg Fin.val hd
  match a with
  | ⟨0, _⟩ =>
    show 1024 * (4 * (quad d).val + (i 0).val / 1024 % 4) + 1 * (256 * ((i 0).val % 1024 / 256) + 1 * ((i 0).val % 1024 % 256)) = (i 0).val
    rw [hq]; omega
  | ⟨1, _⟩ =>
    show 0 + 1 * (0 + 1 * (i 1).val) = (i 1).val
    omega

/-- The finished block of a device, at an index: the sum of four blocks, one from each device of its ring. -/
theorem owned_sum (c : Dev nD) (b k : Fin 4) (j : S256x1024.Idx) :
    (owned m (zdev c (b + 3)) k j : EReal)
      = blkE m (zdev c b) k b j + blkE m (zdev c (b + 1)) k b j + blkE m (zdev c (b + 2)) k b j + blkE m (zdev c (b + 3)) k b j := by
  have hz : ∀ b : Fin 4, b + 3 + 3 = b + 2 ∧ b + 2 + 3 = b + 1 ∧ b + 1 + 3 = b ∧ b + 3 + 3 - Fin.ofNat 4 2 = b ∧ b + 2 + 3 - Fin.ofNat 4 1 = b
      ∧ b + 1 + 3 - Fin.ofNat 4 0 = b := by decide
  obtain ⟨h1, h2, h3, h4, h5, h6⟩ := hz b
  have e0 : (part m k 0 (zdev c b) j : EReal) = blkE m (zdev c b) k b j := by
    show blkE m (zdev c b) k (mz (zdev c b)) j = _
    rw [mz_zdev]
  have e1 : (part m k 1 (zdev c (b + 1)) j : EReal) = part m k 0 (zdev c b) j + blkE m (zdev c (b + 1)) k b j := by
    show (part m k 0 (left (zdev c (b + 1))) j : EReal) + blkE m (zdev c (b + 1)) k (mz (zdev c (b + 1)) + 3 - Fin.ofNat 4 0) j = _
    rw [left_zdev, mz_zdev, h3, ← h3, h6, h3]
  have e2 : (part m k 2 (zdev c (b + 2)) j : EReal) = part m k 1 (zdev c (b + 1)) j + blkE m (zdev c (b + 2)) k b j := by
    show (part m k 1 (left (zdev c (b + 2))) j : EReal) + blkE m (zdev c (b + 2)) k (mz (zdev c (b + 2)) + 3 - Fin.ofNat 4 1) j = _
    rw [left_zdev, mz_zdev, h5, h2]
  have e3 : (part m k 3 (zdev c (b + 3)) j : EReal) = part m k 2 (zdev c (b + 2)) j + blkE m (zdev c (b + 3)) k b j := by
    show (part m k 2 (left (zdev c (b + 3))) j : EReal) + blkE m (zdev c (b + 3)) k (mz (zdev c (b + 3)) + 3 - Fin.ofNat 4 2) j = _
    rw [left_zdev, mz_zdev, h4, h1]
  show (part m k 3 (zdev c (b + 3)) j : EReal) = _
  rw [e3, e2, e1, e0]

/-- A sum over the ring may start anywhere. -/
theorem sum_from (y : Fin 4 → EReal) (b : Fin 4) : y b + y (b + 1) + y (b + 2) + y (b + 3) = ∑ z, y z := by
  rw [← Equiv.sum_comp (Equiv.addLeft b) y, Fin.sum_univ_four]
  simp only [Equiv.coe_addLeft, add_zero]

/-- The result of a device at an index. -/
theorem out_sum (c : Dev nD) (i : S16384x1024.Idx) :
    (Out m c i : EReal) = ∑ z : Fin 4, argE m (zdev (sqdev c (quadOf i)) z) i := by
  show (owned m (zdev (sqdev c (quadOf i)) (blkOf (rowOf i) + 3)) (chunkOf i) (rowIn (rowOf i)) : EReal) = _
  rw [owned_sum, blk_at, blk_at, blk_at, blk_at, sum_from (fun z => argE m (zdev (sqdev c (quadOf i)) z) i)]
  all_goals rw [quad_zdev, quad_sqdev]

end Cert.KernelIdeal.Proof

end
-- ==== Proof.Value.lean ====
module

public import proofs.«01_k».proof.Proof.KI.Value
public import proofs.«01_k».proof.Proof.Gen.ReferenceIdeal.Run
public import Idealize.ShloMosaic.Lib.Pipeline.Value
public import Idealize.ShloMosaic.Lib.Layout

/-! The reference at exact arithmetic, at each index: the sum of the four blocks of its argument. And the two sums are
    one: device `c` holds block `c % 4`. -/

@[expose] public section

noncomputable section

namespace Cert.Proof

open Idealize.ShloMosaic Idealize.ShloMosaic.TcCoe
open Cert.KernelIdeal.Proof (argE argv zdev sqdev quadOf Out out_sum)

/-- The shape of the reference's argument, and of a device's. -/
abbrev SW : Shape := ⟨2, ![65536, 1024]⟩
abbrev SB : Shape := ⟨2, ![16384, 1024]⟩

/-- Row `16384 z + i` of the whole argument. -/
def wholeIx (z : Fin 4) (i : SB.Idx) : SW.Idx := fun a => match a with
  | ⟨0, _⟩ => ⟨16384 * z.val + (i 0).val, by have : (i 0).val < 16384 := (i 0).isLt; have := z.isLt; show _ < 65536; omega⟩
  | ⟨1, _⟩ => ⟨(i 1).val, (i 1).isLt⟩

/-- The reference's result from its argument. -/
def refOut (A : FVec Ideal SW .f32) : FVec Ideal SB .bf16 :=
  truncf .bf16 (Host.reduceAdd (shapeCast _ A Cert.ReferenceIdeal.Gen.shapeCasts_S65536x1024_S4x16384x1024) (constant Cert.ReferenceIdeal.S_ .f32 0x00000000#32)
    Cert.ReferenceIdeal.Gen.reducesTo_S4x16384x1024_S16384x1024_d0 Cert.ReferenceIdeal.Gen.h_S_) Cert.ReferenceIdeal.Gen.bitsLt_bf16_f32

/-- It is the sum of the four blocks. -/
theorem refOut_sum (A : FVec Ideal SW .f32) (i : SB.Idx) : (refOut A i : EReal) = ∑ z : Fin 4, (A (wholeIx z i) : EReal) := by
  have hr : Shape.Reduces ⟨3, ![4, 16384, 1024]⟩ [0] ⟨2, ![16384, 1024]⟩ := by decide
  unfold refOut
  rw [ValueIdx.truncf_apply, ValueIdx.hostReduceAdd_apply, Ideal.hostReduceAdd_single _ hr]
  show Ideal.ofBits .f32 0x00000000#32 + _ = _
  rw [Ideal.ofBits_zero_f32, zero_add]
  refine Finset.sum_congr rfl fun z _ => ?_
  refine shapeCast_apply _ _ _ _ ?_
  rw [Shape.rowMajor_val_two, Shape.rowMajor_val_three]
  show (16384 * z.val + (i 0).val) * 1024 + (i 1).val = (z.val * 16384 + (i 0).val) * 1024 + (i 1).val
  omega

/-- What a device holds of the whole argument, at an index. -/
theorem block_at (A : FVec Ideal SW .f32) (d : Dev Cert.KernelIdeal.nD) (i : SB.Idx) :
    Layout.blockN ⟨2, ![16384, 1024]⟩ ⟨2, ![65536, 1024]⟩ (Layout.meshBlock [2, 2, 4] ![[2], []] d) A (by decide) i = A (wholeIx (Cert.KernelIdeal.Proof.mz d) i) := by
  rw [Layout.blockN_apply]
  refine congrArg A (funext fun a => Fin.ext ?_)
  rw [Layout.TilesN.idx_val]
  match a with
  | ⟨0, _⟩ =>
    show (d.val / 1 % 4 * 1 + 0) * 16384 + (i 0).val = 16384 * (d.val % 4) + (i 0).val
    omega
  | ⟨1, _⟩ =>
    show 0 * 1024 + (i 1).val = (i 1).val
    omega

/-- Every device's result is the reference's. -/
theorem out_eq (m : (ℓ : Loc Cert.KernelIdeal.nD Cert.KernelIdeal.τ Cert.KernelIdeal.sig) → Buf (Elt Ideal) ℓ) (A : FVec Ideal SW .f32)
    (h : ∀ c : Dev Cert.KernelIdeal.nD, m ((c.tc : Thread Cert.KernelIdeal.nD Cert.KernelIdeal.τ).loc Cert.KernelIdeal.main_arg0)
      = Layout.blockN ⟨2, ![16384, 1024]⟩ ⟨2, ![65536, 1024]⟩ (Layout.meshBlock [2, 2, 4] ![[2], []] c) A) (c : Dev Cert.KernelIdeal.nD) :
    Out m c = refOut A := by
  funext i
  refine (out_sum m c i).trans (Eq.trans ?_ (refOut_sum A i).symm)
  refine Finset.sum_congr rfl fun z _ => ?_
  refine (congrFun (h (zdev (sqdev c (quadOf i)) z)) i).trans ?_
  rw [block_at, Cert.KernelIdeal.Proof.mz_zdev]

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.K.Run
public import proofs.«01_k».proof.Proof.KI.Run
public import proofs.«01_k».proof.Proof.Value
public import Idealize.ShloMosaic.Adequacy
public import Idealize.ShloMosaic.Init

@[expose] public section

noncomputable section

namespace Cert.Proof

open Idealize.ShloMosaic Idealize.SL.Sem Cert.Kernel

/-- The kernel on words: it terminates, its argument ends unchanged and every semaphore at zero. -/
theorem quiescentKernel : Cert.quiescent_Kernel := fun m g _ =>
  (θ_run Cert.Kernel.defs _ _).mono (fun _ h => ⟨fun c => (h.1 c).1, h.2⟩) (Cert.Kernel.Proof.run_main (F := Bits) m g)

/-- The same at exact arithmetic. -/
theorem quiescentKernelIdeal : Cert.quiescent_KernelIdeal := fun m g _ =>
  (θ_run Cert.KernelIdeal.defs _ _).mono (fun _ h => ⟨fun c => (h.1 c).1, h.2⟩) (Cert.KernelIdeal.Proof.run_main (F := Ideal) m g)

/-- The reference terminates, its argument ends unchanged and every semaphore at zero. -/
theorem quiescentReferenceIdeal : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- On every device the kernel's result is the reference's, at exact arithmetic. -/
theorem algebraicSum : Cert.algebraic_KernelIdeal_ReferenceIdeal := fun m g m' g' _ hagree =>
  ⟨refOut (m' (((0 : Dev Cert.ReferenceIdeal.nD).tc : Thread Cert.ReferenceIdeal.nD Cert.ReferenceIdeal.τ).loc Cert.ReferenceIdeal.main_arg0)),
    (θ_run Cert.KernelIdeal.defs _ _).mono (fun _ h c => ⟨(h.1 c).2.trans (out_eq m _ hagree c), (h.1 c).1⟩)
      (Cert.KernelIdeal.Proof.run_main (F := Ideal) m g),
    (θ_run Cert.ReferenceIdeal.defs _ _).mono (fun _ h => h 0) (Cert.ReferenceIdeal.Value.run (F := Ideal) m' g')⟩

theorem claim : Cert.Claim := ⟨Cert.Kernel.Gen.facts, Cert.KernelIdeal.Gen.facts, Cert.ReferenceIdeal.Gen.facts,
  quiescentKernel, quiescentKernelIdeal, quiescentReferenceIdeal, trivial, algebraicSum⟩

end Cert.Proof

end
